-- ==== Defs.lean ====
def Pre_Kernel [hPre_pi_0123_Kernel : Cert.Pre_pi_0123_Kernel.Facts] (m : (ℓ : Loc Cert.Kernel.nD Cert.Kernel.τ Cert.Kernel.sig) → Buf (Elt Bits) ℓ) : Prop :=
  ∀ c : Dev Cert.Kernel.nD,
    (Cert.Pre_pi_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0132_Kernel [hPre_pi_0132_Kernel : Cert.Pre_pi_0132_Kernel.Facts] (m : (ℓ : Loc Cert.Kernel.nD Cert.Kernel.τ Cert.Kernel.sig) → Buf (Elt Bits) ℓ) : Prop :=
  ∀ c : Dev Cert.Kernel.nD,
    (Cert.Pre_pi_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0213_Kernel [hPre_pi_0213_Kernel : Cert.Pre_pi_0213_Kernel.Facts] (m : (ℓ : Loc Cert.Kernel.nD Cert.Kernel.τ Cert.Kernel.sig) → Buf (Elt Bits) ℓ) : Prop :=
  ∀ c : Dev Cert.Kernel.nD,
    (Cert.Pre_pi_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0231_Kernel [hPre_pi_0231_Kernel : Cert.Pre_pi_0231_Kernel.Facts] (m : (ℓ : Loc Cert.Kernel.nD Cert.Kernel.τ Cert.Kernel.sig) → Buf (Elt Bits) ℓ) : Prop :=
  ∀ c : Dev Cert.Kernel.nD,
    (Cert.Pre_pi_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0312_Kernel [hPre_pi_0312_Kernel : Cert.Pre_pi_0312_Kernel.Facts] (m : (ℓ : Loc Cert.Kernel.nD Cert.Kernel.τ Cert.Kernel.sig) → Buf (Elt Bits) ℓ) : Prop :=
  ∀ c : Dev Cert.Kernel.nD,
    (Cert.Pre_pi_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_0321_Kernel [hPre_pi_0321_Kernel : Cert.Pre_pi_0321_Kernel.Facts] (m : (ℓ : Loc Cert.Kernel.nD Cert.Kernel.τ Cert.Kernel.sig) → Buf (Elt Bits) ℓ) : Prop :=
  ∀ c : Dev Cert.Kernel.nD,
    (Cert.Pre_pi_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1023_Kernel [hPre_pi_1023_Kernel : Cert.Pre_pi_1023_Kernel.Facts] (m : (ℓ : Loc Cert.Kernel.nD Cert.Kernel.τ Cert.Kernel.sig) → Buf (Elt Bits) ℓ) : Prop :=
  ∀ c : Dev Cert.Kernel.nD,
    (Cert.Pre_pi_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1032_Kernel [hPre_pi_1032_Kernel : Cert.Pre_pi_1032_Kernel.Facts] (m : (ℓ : Loc Cert.Kernel.nD Cert.Kernel.τ Cert.Kernel.sig) → Buf (Elt Bits) ℓ) : Prop :=
  ∀ c : Dev Cert.Kernel.nD,
    (Cert.Pre_pi_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1203_Kernel [hPre_pi_1203_Kernel : Cert.Pre_pi_1203_Kernel.Facts] (m : (ℓ : Loc Cert.Kernel.nD Cert.Kernel.τ Cert.Kernel.sig) → Buf (Elt Bits) ℓ) : Prop :=
  ∀ c : Dev Cert.Kernel.nD,
    (Cert.Pre_pi_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1230_Kernel [hPre_pi_1230_Kernel : Cert.Pre_pi_1230_Kernel.Facts] (m : (ℓ : Loc Cert.Kernel.nD Cert.Kernel.τ Cert.Kernel.sig) → Buf (Elt Bits) ℓ) : Prop :=
  ∀ c : Dev Cert.Kernel.nD,
    (Cert.Pre_pi_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1302_Kernel [hPre_pi_1302_Kernel : Cert.Pre_pi_1302_Kernel.Facts] (m : (ℓ : Loc Cert.Kernel.nD Cert.Kernel.τ Cert.Kernel.sig) → Buf (Elt Bits) ℓ) : Prop :=
  ∀ c : Dev Cert.Kernel.nD,
    (Cert.Pre_pi_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_1320_Kernel [hPre_pi_1320_Kernel : Cert.Pre_pi_1320_Kernel.Facts] (m : (ℓ : Loc Cert.Kernel.nD Cert.Kernel.τ Cert.Kernel.sig) → Buf (Elt Bits) ℓ) : Prop :=
  ∀ c : Dev Cert.Kernel.nD,
    (Cert.Pre_pi_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2013_Kernel [hPre_pi_2013_Kernel : Cert.Pre_pi_2013_Kernel.Facts] (m : (ℓ : Loc Cert.Kernel.nD Cert.Kernel.τ Cert.Kernel.sig) → Buf (Elt Bits) ℓ) : Prop :=
  ∀ c : Dev Cert.Kernel.nD,
    (Cert.Pre_pi_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2031_Kernel [hPre_pi_2031_Kernel : Cert.Pre_pi_2031_Kernel.Facts] (m : (ℓ : Loc Cert.Kernel.nD Cert.Kernel.τ Cert.Kernel.sig) → Buf (Elt Bits) ℓ) : Prop :=
  ∀ c : Dev Cert.Kernel.nD,
    (Cert.Pre_pi_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2103_Kernel [hPre_pi_2103_Kernel : Cert.Pre_pi_2103_Kernel.Facts] (m : (ℓ : Loc Cert.Kernel.nD Cert.Kernel.τ Cert.Kernel.sig) → Buf (Elt Bits) ℓ) : Prop :=
  ∀ c : Dev Cert.Kernel.nD,
    (Cert.Pre_pi_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2130_Kernel [hPre_pi_2130_Kernel : Cert.Pre_pi_2130_Kernel.Facts] (m : (ℓ : Loc Cert.Kernel.nD Cert.Kernel.τ Cert.Kernel.sig) → Buf (Elt Bits) ℓ) : Prop :=
  ∀ c : Dev Cert.Kernel.nD,
    (Cert.Pre_pi_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2301_Kernel [hPre_pi_2301_Kernel : Cert.Pre_pi_2301_Kernel.Facts] (m : (ℓ : Loc Cert.Kernel.nD Cert.Kernel.τ Cert.Kernel.sig) → Buf (Elt Bits) ℓ) : Prop :=
  ∀ c : Dev Cert.Kernel.nD,
    (Cert.Pre_pi_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_2310_Kernel [hPre_pi_2310_Kernel : Cert.Pre_pi_2310_Kernel.Facts] (m : (ℓ : Loc Cert.Kernel.nD Cert.Kernel.τ Cert.Kernel.sig) → Buf (Elt Bits) ℓ) : Prop :=
  ∀ c : Dev Cert.Kernel.nD,
    (Cert.Pre_pi_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3012_Kernel [hPre_pi_3012_Kernel : Cert.Pre_pi_3012_Kernel.Facts] (m : (ℓ : Loc Cert.Kernel.nD Cert.Kernel.τ Cert.Kernel.sig) → Buf (Elt Bits) ℓ) : Prop :=
  ∀ c : Dev Cert.Kernel.nD,
    (Cert.Pre_pi_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3021_Kernel [hPre_pi_3021_Kernel : Cert.Pre_pi_3021_Kernel.Facts] (m : (ℓ : Loc Cert.Kernel.nD Cert.Kernel.τ Cert.Kernel.sig) → Buf (Elt Bits) ℓ) : Prop :=
  ∀ c : Dev Cert.Kernel.nD,
    (Cert.Pre_pi_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3102_Kernel [hPre_pi_3102_Kernel : Cert.Pre_pi_3102_Kernel.Facts] (m : (ℓ : Loc Cert.Kernel.nD Cert.Kernel.τ Cert.Kernel.sig) → Buf (Elt Bits) ℓ) : Prop :=
  ∀ c : Dev Cert.Kernel.nD,
    (Cert.Pre_pi_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3120_Kernel [hPre_pi_3120_Kernel : Cert.Pre_pi_3120_Kernel.Facts] (m : (ℓ : Loc Cert.Kernel.nD Cert.Kernel.τ Cert.Kernel.sig) → Buf (Elt Bits) ℓ) : Prop :=
  ∀ c : Dev Cert.Kernel.nD,
    (Cert.Pre_pi_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3201_Kernel [hPre_pi_3201_Kernel : Cert.Pre_pi_3201_Kernel.Facts] (m : (ℓ : Loc Cert.Kernel.nD Cert.Kernel.τ Cert.Kernel.sig) → Buf (Elt Bits) ℓ) : Prop :=
  ∀ c : Dev Cert.Kernel.nD,
    (Cert.Pre_pi_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_3210_Kernel [hPre_pi_3210_Kernel : Cert.Pre_pi_3210_Kernel.Facts] (m : (ℓ : Loc Cert.Kernel.nD Cert.Kernel.τ Cert.Kernel.sig) → Buf (Elt Bits) ℓ) : Prop :=
  ∀ c : Dev Cert.Kernel.nD,
    (Cert.Pre_pi_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_0123_Kernel : Cert.Pre_pi_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0132_Kernel [hPre_pi_0132_Kernel : Cert.Pre_pi_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0213_Kernel [hPre_pi_0213_Kernel : Cert.Pre_pi_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0231_Kernel [hPre_pi_0231_Kernel : Cert.Pre_pi_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0312_Kernel [hPre_pi_0312_Kernel : Cert.Pre_pi_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_0321_Kernel [hPre_pi_0321_Kernel : Cert.Pre_pi_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1023_Kernel [hPre_pi_1023_Kernel : Cert.Pre_pi_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1032_Kernel [hPre_pi_1032_Kernel : Cert.Pre_pi_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1203_Kernel [hPre_pi_1203_Kernel : Cert.Pre_pi_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1230_Kernel [hPre_pi_1230_Kernel : Cert.Pre_pi_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1302_Kernel [hPre_pi_1302_Kernel : Cert.Pre_pi_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_1320_Kernel [hPre_pi_1320_Kernel : Cert.Pre_pi_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2013_Kernel [hPre_pi_2013_Kernel : Cert.Pre_pi_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2031_Kernel [hPre_pi_2031_Kernel : Cert.Pre_pi_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2103_Kernel [hPre_pi_2103_Kernel : Cert.Pre_pi_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2130_Kernel [hPre_pi_2130_Kernel : Cert.Pre_pi_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2301_Kernel [hPre_pi_2301_Kernel : Cert.Pre_pi_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_2310_Kernel [hPre_pi_2310_Kernel : Cert.Pre_pi_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3012_Kernel [hPre_pi_3012_Kernel : Cert.Pre_pi_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3021_Kernel [hPre_pi_3021_Kernel : Cert.Pre_pi_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3102_Kernel [hPre_pi_3102_Kernel : Cert.Pre_pi_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3120_Kernel [hPre_pi_3120_Kernel : Cert.Pre_pi_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3201_Kernel [hPre_pi_3201_Kernel : Cert.Pre_pi_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_3210_Kernel [hPre_pi_3210_Kernel : Cert.Pre_pi_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_0123_ReferenceIdeal [hPre_pi_0123_ReferenceIdeal : Cert.Pre_pi_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0132_ReferenceIdeal [hPre_pi_0132_ReferenceIdeal : Cert.Pre_pi_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0213_ReferenceIdeal [hPre_pi_0213_ReferenceIdeal : Cert.Pre_pi_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0231_ReferenceIdeal [hPre_pi_0231_ReferenceIdeal : Cert.Pre_pi_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0312_ReferenceIdeal [hPre_pi_0312_ReferenceIdeal : Cert.Pre_pi_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_0321_ReferenceIdeal [hPre_pi_0321_ReferenceIdeal : Cert.Pre_pi_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1023_ReferenceIdeal [hPre_pi_1023_ReferenceIdeal : Cert.Pre_pi_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1032_ReferenceIdeal [hPre_pi_1032_ReferenceIdeal : Cert.Pre_pi_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1203_ReferenceIdeal [hPre_pi_1203_ReferenceIdeal : Cert.Pre_pi_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1230_ReferenceIdeal [hPre_pi_1230_ReferenceIdeal : Cert.Pre_pi_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1302_ReferenceIdeal [hPre_pi_1302_ReferenceIdeal : Cert.Pre_pi_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_1320_ReferenceIdeal [hPre_pi_1320_ReferenceIdeal : Cert.Pre_pi_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2013_ReferenceIdeal [hPre_pi_2013_ReferenceIdeal : Cert.Pre_pi_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2031_ReferenceIdeal [hPre_pi_2031_ReferenceIdeal : Cert.Pre_pi_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2103_ReferenceIdeal [hPre_pi_2103_ReferenceIdeal : Cert.Pre_pi_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2130_ReferenceIdeal [hPre_pi_2130_ReferenceIdeal : Cert.Pre_pi_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2301_ReferenceIdeal [hPre_pi_2301_ReferenceIdeal : Cert.Pre_pi_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_2310_ReferenceIdeal [hPre_pi_2310_ReferenceIdeal : Cert.Pre_pi_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3012_ReferenceIdeal [hPre_pi_3012_ReferenceIdeal : Cert.Pre_pi_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3021_ReferenceIdeal [hPre_pi_3021_ReferenceIdeal : Cert.Pre_pi_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3102_ReferenceIdeal [hPre_pi_3102_ReferenceIdeal : Cert.Pre_pi_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3120_ReferenceIdeal [hPre_pi_3120_ReferenceIdeal : Cert.Pre_pi_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3201_ReferenceIdeal [hPre_pi_3201_ReferenceIdeal : Cert.Pre_pi_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_3210_ReferenceIdeal [hPre_pi_3210_ReferenceIdeal : Cert.Pre_pi_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_0123_Kernel : Cert.Pre_pi_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0132_Kernel [hKernel : Cert.Kernel.Facts] [hPre_pi_0132_Kernel : Cert.Pre_pi_0132_Kernel.Facts] : Prop :=
  ∀ (m : (ℓ : Loc Cert.Kernel.nD Cert.Kernel.τ Cert.Kernel.sig) → Buf (Elt Bits) ℓ) (g : Dev Cert.Kernel.nD → PrngReg), Pre_Kernel_pi_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0213_Kernel [hKernel : Cert.Kernel.Facts] [hPre_pi_0213_Kernel : Cert.Pre_pi_0213_Kernel.Facts] : Prop :=
  ∀ (m : (ℓ : Loc Cert.Kernel.nD Cert.Kernel.τ Cert.Kernel.sig) → Buf (Elt Bits) ℓ) (g : Dev Cert.Kernel.nD → PrngReg), Pre_Kernel_pi_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0231_Kernel [hKernel : Cert.Kernel.Facts] [hPre_pi_0231_Kernel : Cert.Pre_pi_0231_Kernel.Facts] : Prop :=
  ∀ (m : (ℓ : Loc Cert.Kernel.nD Cert.Kernel.τ Cert.Kernel.sig) → Buf (Elt Bits) ℓ) (g : Dev Cert.Kernel.nD → PrngReg), Pre_Kernel_pi_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0312_Kernel [hKernel : Cert.Kernel.Facts] [hPre_pi_0312_Kernel : Cert.Pre_pi_0312_Kernel.Facts] : Prop :=
  ∀ (m : (ℓ : Loc Cert.Kernel.nD Cert.Kernel.τ Cert.Kernel.sig) → Buf (Elt Bits) ℓ) (g : Dev Cert.Kernel.nD → PrngReg), Pre_Kernel_pi_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_0321_Kernel [hKernel : Cert.Kernel.Facts] [hPre_pi_0321_Kernel : Cert.Pre_pi_0321_Kernel.Facts] : Prop :=
  ∀ (m : (ℓ : Loc Cert.Kernel.nD Cert.Kernel.τ Cert.Kernel.sig) → Buf (Elt Bits) ℓ) (g : Dev Cert.Kernel.nD → PrngReg), Pre_Kernel_pi_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1023_Kernel [hKernel : Cert.Kernel.Facts] [hPre_pi_1023_Kernel : Cert.Pre_pi_1023_Kernel.Facts] : Prop :=
  ∀ (m : (ℓ : Loc Cert.Kernel.nD Cert.Kernel.τ Cert.Kernel.sig) → Buf (Elt Bits) ℓ) (g : Dev Cert.Kernel.nD → PrngReg), Pre_Kernel_pi_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1032_Kernel [hKernel : Cert.Kernel.Facts] [hPre_pi_1032_Kernel : Cert.Pre_pi_1032_Kernel.Facts] : Prop :=
  ∀ (m : (ℓ : Loc Cert.Kernel.nD Cert.Kernel.τ Cert.Kernel.sig) → Buf (Elt Bits) ℓ) (g : Dev Cert.Kernel.nD → PrngReg), Pre_Kernel_pi_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1203_Kernel [hKernel : Cert.Kernel.Facts] [hPre_pi_1203_Kernel : Cert.Pre_pi_1203_Kernel.Facts] : Prop :=
  ∀ (m : (ℓ : Loc Cert.Kernel.nD Cert.Kernel.τ Cert.Kernel.sig) → Buf (Elt Bits) ℓ) (g : Dev Cert.Kernel.nD → PrngReg), Pre_Kernel_pi_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1230_Kernel [hKernel : Cert.Kernel.Facts] [hPre_pi_1230_Kernel : Cert.Pre_pi_1230_Kernel.Facts] : Prop :=
  ∀ (m : (ℓ : Loc Cert.Kernel.nD Cert.Kernel.τ Cert.Kernel.sig) → Buf (Elt Bits) ℓ) (g : Dev Cert.Kernel.nD → PrngReg), Pre_Kernel_pi_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1302_Kernel [hKernel : Cert.Kernel.Facts] [hPre_pi_1302_Kernel : Cert.Pre_pi_1302_Kernel.Facts] : Prop :=
  ∀ (m : (ℓ : Loc Cert.Kernel.nD Cert.Kernel.τ Cert.Kernel.sig) → Buf (Elt Bits) ℓ) (g : Dev Cert.Kernel.nD → PrngReg), Pre_Kernel_pi_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_1320_Kernel [hKernel : Cert.Kernel.Facts] [hPre_pi_1320_Kernel : Cert.Pre_pi_1320_Kernel.Facts] : Prop :=
  ∀ (m : (ℓ : Loc Cert.Kernel.nD Cert.Kernel.τ Cert.Kernel.sig) → Buf (Elt Bits) ℓ) (g : Dev Cert.Kernel.nD → PrngReg), Pre_Kernel_pi_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2013_Kernel [hKernel : Cert.Kernel.Facts] [hPre_pi_2013_Kernel : Cert.Pre_pi_2013_Kernel.Facts] : Prop :=
  ∀ (m : (ℓ : Loc Cert.Kernel.nD Cert.Kernel.τ Cert.Kernel.sig) → Buf (Elt Bits) ℓ) (g : Dev Cert.Kernel.nD → PrngReg), Pre_Kernel_pi_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2031_Kernel [hKernel : Cert.Kernel.Facts] [hPre_pi_2031_Kernel : Cert.Pre_pi_2031_Kernel.Facts] : Prop :=
  ∀ (m : (ℓ : Loc Cert.Kernel.nD Cert.Kernel.τ Cert.Kernel.sig) → Buf (Elt Bits) ℓ) (g : Dev Cert.Kernel.nD → PrngReg), Pre_Kernel_pi_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2103_Kernel [hKernel : Cert.Kernel.Facts] [hPre_pi_2103_Kernel : Cert.Pre_pi_2103_Kernel.Facts] : Prop :=
  ∀ (m : (ℓ : Loc Cert.Kernel.nD Cert.Kernel.τ Cert.Kernel.sig) → Buf (Elt Bits) ℓ) (g : Dev Cert.Kernel.nD → PrngReg), Pre_Kernel_pi_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2130_Kernel [hKernel : Cert.Kernel.Facts] [hPre_pi_2130_Kernel : Cert.Pre_pi_2130_Kernel.Facts] : Prop :=
  ∀ (m : (ℓ : Loc Cert.Kernel.nD Cert.Kernel.τ Cert.Kernel.sig) → Buf (Elt Bits) ℓ) (g : Dev Cert.Kernel.nD → PrngReg), Pre_Kernel_pi_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2301_Kernel [hKernel : Cert.Kernel.Facts] [hPre_pi_2301_Kernel : Cert.Pre_pi_2301_Kernel.Facts] : Prop :=
  ∀ (m : (ℓ : Loc Cert.Kernel.nD Cert.Kernel.τ Cert.Kernel.sig) → Buf (Elt Bits) ℓ) (g : Dev Cert.Kernel.nD → PrngReg), Pre_Kernel_pi_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_2310_Kernel [hKernel : Cert.Kernel.Facts] [hPre_pi_2310_Kernel : Cert.Pre_pi_2310_Kernel.Facts] : Prop :=
  ∀ (m : (ℓ : Loc Cert.Kernel.nD Cert.Kernel.τ Cert.Kernel.sig) → Buf (Elt Bits) ℓ) (g : Dev Cert.Kernel.nD → PrngReg), Pre_Kernel_pi_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3012_Kernel [hKernel : Cert.Kernel.Facts] [hPre_pi_3012_Kernel : Cert.Pre_pi_3012_Kernel.Facts] : Prop :=
  ∀ (m : (ℓ : Loc Cert.Kernel.nD Cert.Kernel.τ Cert.Kernel.sig) → Buf (Elt Bits) ℓ) (g : Dev Cert.Kernel.nD → PrngReg), Pre_Kernel_pi_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3021_Kernel [hKernel : Cert.Kernel.Facts] [hPre_pi_3021_Kernel : Cert.Pre_pi_3021_Kernel.Facts] : Prop :=
  ∀ (m : (ℓ : Loc Cert.Kernel.nD Cert.Kernel.τ Cert.Kernel.sig) → Buf (Elt Bits) ℓ) (g : Dev Cert.Kernel.nD → PrngReg), Pre_Kernel_pi_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3102_Kernel [hKernel : Cert.Kernel.Facts] [hPre_pi_3102_Kernel : Cert.Pre_pi_3102_Kernel.Facts] : Prop :=
  ∀ (m : (ℓ : Loc Cert.Kernel.nD Cert.Kernel.τ Cert.Kernel.sig) → Buf (Elt Bits) ℓ) (g : Dev Cert.Kernel.nD → PrngReg), Pre_Kernel_pi_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3120_Kernel [hKernel : Cert.Kernel.Facts] [hPre_pi_3120_Kernel : Cert.Pre_pi_3120_Kernel.Facts] : Prop :=
  ∀ (m : (ℓ : Loc Cert.Kernel.nD Cert.Kernel.τ Cert.Kernel.sig) → Buf (Elt Bits) ℓ) (g : Dev Cert.Kernel.nD → PrngReg), Pre_Kernel_pi_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3201_Kernel [hKernel : Cert.Kernel.Facts] [hPre_pi_3201_Kernel : Cert.Pre_pi_3201_Kernel.Facts] : Prop :=
  ∀ (m : (ℓ : Loc Cert.Kernel.nD Cert.Kernel.τ Cert.Kernel.sig) → Buf (Elt Bits) ℓ) (g : Dev Cert.Kernel.nD → PrngReg), Pre_Kernel_pi_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_3210_Kernel [hKernel : Cert.Kernel.Facts] [hPre_pi_3210_Kernel : Cert.Pre_pi_3210_Kernel.Facts] : Prop :=
  ∀ (m : (ℓ : Loc Cert.Kernel.nD Cert.Kernel.τ Cert.Kernel.sig) → Buf (Elt Bits) ℓ) (g : Dev Cert.Kernel.nD → PrngReg), Pre_Kernel_pi_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_0123_Kernel : Cert.Pre_pi_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0132_Kernel [hKernelIdeal : Cert.KernelIdeal.Facts] [hPre_pi_0132_Kernel : Cert.Pre_pi_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0213_Kernel [hKernelIdeal : Cert.KernelIdeal.Facts] [hPre_pi_0213_Kernel : Cert.Pre_pi_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0231_Kernel [hKernelIdeal : Cert.KernelIdeal.Facts] [hPre_pi_0231_Kernel : Cert.Pre_pi_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0312_Kernel [hKernelIdeal : Cert.KernelIdeal.Facts] [hPre_pi_0312_Kernel : Cert.Pre_pi_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_0321_Kernel [hKernelIdeal : Cert.KernelIdeal.Facts] [hPre_pi_0321_Kernel : Cert.Pre_pi_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1023_Kernel [hKernelIdeal : Cert.KernelIdeal.Facts] [hPre_pi_1023_Kernel : Cert.Pre_pi_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1032_Kernel [hKernelIdeal : Cert.KernelIdeal.Facts] [hPre_pi_1032_Kernel : Cert.Pre_pi_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1203_Kernel [hKernelIdeal : Cert.KernelIdeal.Facts] [hPre_pi_1203_Kernel : Cert.Pre_pi_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1230_Kernel [hKernelIdeal : Cert.KernelIdeal.Facts] [hPre_pi_1230_Kernel : Cert.Pre_pi_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1302_Kernel [hKernelIdeal : Cert.KernelIdeal.Facts] [hPre_pi_1302_Kernel : Cert.Pre_pi_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_1320_Kernel [hKernelIdeal : Cert.KernelIdeal.Facts] [hPre_pi_1320_Kernel : Cert.Pre_pi_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2013_Kernel [hKernelIdeal : Cert.KernelIdeal.Facts] [hPre_pi_2013_Kernel : Cert.Pre_pi_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2031_Kernel [hKernelIdeal : Cert.KernelIdeal.Facts] [hPre_pi_2031_Kernel : Cert.Pre_pi_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2103_Kernel [hKernelIdeal : Cert.KernelIdeal.Facts] [hPre_pi_2103_Kernel : Cert.Pre_pi_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2130_Kernel [hKernelIdeal : Cert.KernelIdeal.Facts] [hPre_pi_2130_Kernel : Cert.Pre_pi_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2301_Kernel [hKernelIdeal : Cert.KernelIdeal.Facts] [hPre_pi_2301_Kernel : Cert.Pre_pi_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_2310_Kernel [hKernelIdeal : Cert.KernelIdeal.Facts] [hPre_pi_2310_Kernel : Cert.Pre_pi_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3012_Kernel [hKernelIdeal : Cert.KernelIdeal.Facts] [hPre_pi_3012_Kernel : Cert.Pre_pi_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3021_Kernel [hKernelIdeal : Cert.KernelIdeal.Facts] [hPre_pi_3021_Kernel : Cert.Pre_pi_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3102_Kernel [hKernelIdeal : Cert.KernelIdeal.Facts] [hPre_pi_3102_Kernel : Cert.Pre_pi_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3120_Kernel [hKernelIdeal : Cert.KernelIdeal.Facts] [hPre_pi_3120_Kernel : Cert.Pre_pi_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3201_Kernel [hKernelIdeal : Cert.KernelIdeal.Facts] [hPre_pi_3201_Kernel : Cert.Pre_pi_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_3210_Kernel [hKernelIdeal : Cert.KernelIdeal.Facts] [hPre_pi_3210_Kernel : Cert.Pre_pi_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0123_ReferenceIdeal [hReferenceIdeal : Cert.ReferenceIdeal.Facts] [hPre_pi_0123_ReferenceIdeal : Cert.Pre_pi_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0132_ReferenceIdeal [hReferenceIdeal : Cert.ReferenceIdeal.Facts] [hPre_pi_0132_ReferenceIdeal : Cert.Pre_pi_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0213_ReferenceIdeal [hReferenceIdeal : Cert.ReferenceIdeal.Facts] [hPre_pi_0213_ReferenceIdeal : Cert.Pre_pi_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0231_ReferenceIdeal [hReferenceIdeal : Cert.ReferenceIdeal.Facts] [hPre_pi_0231_ReferenceIdeal : Cert.Pre_pi_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0312_ReferenceIdeal [hReferenceIdeal : Cert.ReferenceIdeal.Facts] [hPre_pi_0312_ReferenceIdeal : Cert.Pre_pi_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_0321_ReferenceIdeal [hReferenceIdeal : Cert.ReferenceIdeal.Facts] [hPre_pi_0321_ReferenceIdeal : Cert.Pre_pi_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1023_ReferenceIdeal [hReferenceIdeal : Cert.ReferenceIdeal.Facts] [hPre_pi_1023_ReferenceIdeal : Cert.Pre_pi_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1032_ReferenceIdeal [hReferenceIdeal : Cert.ReferenceIdeal.Facts] [hPre_pi_1032_ReferenceIdeal : Cert.Pre_pi_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1203_ReferenceIdeal [hReferenceIdeal : Cert.ReferenceIdeal.Facts] [hPre_pi_1203_ReferenceIdeal : Cert.Pre_pi_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1230_ReferenceIdeal [hReferenceIdeal : Cert.ReferenceIdeal.Facts] [hPre_pi_1230_ReferenceIdeal : Cert.Pre_pi_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1302_ReferenceIdeal [hReferenceIdeal : Cert.ReferenceIdeal.Facts] [hPre_pi_1302_ReferenceIdeal : Cert.Pre_pi_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_1320_ReferenceIdeal [hReferenceIdeal : Cert.ReferenceIdeal.Facts] [hPre_pi_1320_ReferenceIdeal : Cert.Pre_pi_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2013_ReferenceIdeal [hReferenceIdeal : Cert.ReferenceIdeal.Facts] [hPre_pi_2013_ReferenceIdeal : Cert.Pre_pi_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2031_ReferenceIdeal [hReferenceIdeal : Cert.ReferenceIdeal.Facts] [hPre_pi_2031_ReferenceIdeal : Cert.Pre_pi_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2103_ReferenceIdeal [hReferenceIdeal : Cert.ReferenceIdeal.Facts] [hPre_pi_2103_ReferenceIdeal : Cert.Pre_pi_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2130_ReferenceIdeal [hReferenceIdeal : Cert.ReferenceIdeal.Facts] [hPre_pi_2130_ReferenceIdeal : Cert.Pre_pi_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2301_ReferenceIdeal [hReferenceIdeal : Cert.ReferenceIdeal.Facts] [hPre_pi_2301_ReferenceIdeal : Cert.Pre_pi_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_2310_ReferenceIdeal [hReferenceIdeal : Cert.ReferenceIdeal.Facts] [hPre_pi_2310_ReferenceIdeal : Cert.Pre_pi_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3012_ReferenceIdeal [hReferenceIdeal : Cert.ReferenceIdeal.Facts] [hPre_pi_3012_ReferenceIdeal : Cert.Pre_pi_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3021_ReferenceIdeal [hReferenceIdeal : Cert.ReferenceIdeal.Facts] [hPre_pi_3021_ReferenceIdeal : Cert.Pre_pi_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3102_ReferenceIdeal [hReferenceIdeal : Cert.ReferenceIdeal.Facts] [hPre_pi_3102_ReferenceIdeal : Cert.Pre_pi_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3120_ReferenceIdeal [hReferenceIdeal : Cert.ReferenceIdeal.Facts] [hPre_pi_3120_ReferenceIdeal : Cert.Pre_pi_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3201_ReferenceIdeal [hReferenceIdeal : Cert.ReferenceIdeal.Facts] [hPre_pi_3201_ReferenceIdeal : Cert.Pre_pi_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_3210_ReferenceIdeal [hReferenceIdeal : Cert.ReferenceIdeal.Facts] [hPre_pi_3210_ReferenceIdeal : Cert.Pre_pi_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_0123_Kernel : Cert.Pre_pi_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0132_Kernel [hKernelIdeal : Cert.KernelIdeal.Facts] [hReferenceIdeal : Cert.ReferenceIdeal.Facts] [hPre_pi_0132_Kernel : Cert.Pre_pi_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0132_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0213_Kernel [hKernelIdeal : Cert.KernelIdeal.Facts] [hReferenceIdeal : Cert.ReferenceIdeal.Facts] [hPre_pi_0213_Kernel : Cert.Pre_pi_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0213_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0231_Kernel [hKernelIdeal : Cert.KernelIdeal.Facts] [hReferenceIdeal : Cert.ReferenceIdeal.Facts] [hPre_pi_0231_Kernel : Cert.Pre_pi_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0231_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0312_Kernel [hKernelIdeal : Cert.KernelIdeal.Facts] [hReferenceIdeal : Cert.ReferenceIdeal.Facts] [hPre_pi_0312_Kernel : Cert.Pre_pi_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0312_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_0321_Kernel [hKernelIdeal : Cert.KernelIdeal.Facts] [hReferenceIdeal : Cert.ReferenceIdeal.Facts] [hPre_pi_0321_Kernel : Cert.Pre_pi_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_0321_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1023_Kernel [hKernelIdeal : Cert.KernelIdeal.Facts] [hReferenceIdeal : Cert.ReferenceIdeal.Facts] [hPre_pi_1023_Kernel : Cert.Pre_pi_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1023_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1032_Kernel [hKernelIdeal : Cert.KernelIdeal.Facts] [hReferenceIdeal : Cert.ReferenceIdeal.Facts] [hPre_pi_1032_Kernel : Cert.Pre_pi_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1032_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1203_Kernel [hKernelIdeal : Cert.KernelIdeal.Facts] [hReferenceIdeal : Cert.ReferenceIdeal.Facts] [hPre_pi_1203_Kernel : Cert.Pre_pi_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1203_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1230_Kernel [hKernelIdeal : Cert.KernelIdeal.Facts] [hReferenceIdeal : Cert.ReferenceIdeal.Facts] [hPre_pi_1230_Kernel : Cert.Pre_pi_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1230_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1302_Kernel [hKernelIdeal : Cert.KernelIdeal.Facts] [hReferenceIdeal : Cert.ReferenceIdeal.Facts] [hPre_pi_1302_Kernel : Cert.Pre_pi_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1302_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_1320_Kernel [hKernelIdeal : Cert.KernelIdeal.Facts] [hReferenceIdeal : Cert.ReferenceIdeal.Facts] [hPre_pi_1320_Kernel : Cert.Pre_pi_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_1320_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2013_Kernel [hKernelIdeal : Cert.KernelIdeal.Facts] [hReferenceIdeal : Cert.ReferenceIdeal.Facts] [hPre_pi_2013_Kernel : Cert.Pre_pi_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2013_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2031_Kernel [hKernelIdeal : Cert.KernelIdeal.Facts] [hReferenceIdeal : Cert.ReferenceIdeal.Facts] [hPre_pi_2031_Kernel : Cert.Pre_pi_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2031_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2103_Kernel [hKernelIdeal : Cert.KernelIdeal.Facts] [hReferenceIdeal : Cert.ReferenceIdeal.Facts] [hPre_pi_2103_Kernel : Cert.Pre_pi_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2103_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2130_Kernel [hKernelIdeal : Cert.KernelIdeal.Facts] [hReferenceIdeal : Cert.ReferenceIdeal.Facts] [hPre_pi_2130_Kernel : Cert.Pre_pi_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2130_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2301_Kernel [hKernelIdeal : Cert.KernelIdeal.Facts] [hReferenceIdeal : Cert.ReferenceIdeal.Facts] [hPre_pi_2301_Kernel : Cert.Pre_pi_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2301_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_2310_Kernel [hKernelIdeal : Cert.KernelIdeal.Facts] [hReferenceIdeal : Cert.ReferenceIdeal.Facts] [hPre_pi_2310_Kernel : Cert.Pre_pi_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_2310_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3012_Kernel [hKernelIdeal : Cert.KernelIdeal.Facts] [hReferenceIdeal : Cert.ReferenceIdeal.Facts] [hPre_pi_3012_Kernel : Cert.Pre_pi_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3012_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3021_Kernel [hKernelIdeal : Cert.KernelIdeal.Facts] [hReferenceIdeal : Cert.ReferenceIdeal.Facts] [hPre_pi_3021_Kernel : Cert.Pre_pi_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3021_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3102_Kernel [hKernelIdeal : Cert.KernelIdeal.Facts] [hReferenceIdeal : Cert.ReferenceIdeal.Facts] [hPre_pi_3102_Kernel : Cert.Pre_pi_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3102_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3120_Kernel [hKernelIdeal : Cert.KernelIdeal.Facts] [hReferenceIdeal : Cert.ReferenceIdeal.Facts] [hPre_pi_3120_Kernel : Cert.Pre_pi_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3120_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3201_Kernel [hKernelIdeal : Cert.KernelIdeal.Facts] [hReferenceIdeal : Cert.ReferenceIdeal.Facts] [hPre_pi_3201_Kernel : Cert.Pre_pi_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3201_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_3210_Kernel [hKernelIdeal : Cert.KernelIdeal.Facts] [hReferenceIdeal : Cert.ReferenceIdeal.Facts] [hPre_pi_3210_Kernel : Cert.Pre_pi_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_3210_Kernel m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 512, 512]⟩ ⟨3, ![4, 512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_0123_Kernel : Cert.Pre_pi_0123_Kernel.Facts) (hPre_pi_0132_Kernel : Cert.Pre_pi_0132_Kernel.Facts) (hPre_pi_0213_Kernel : Cert.Pre_pi_0213_Kernel.Facts) (hPre_pi_0231_Kernel : Cert.Pre_pi_0231_Kernel.Facts) (hPre_pi_0312_Kernel : Cert.Pre_pi_0312_Kernel.Facts) (hPre_pi_0321_Kernel : Cert.Pre_pi_0321_Kernel.Facts) (hPre_pi_1023_Kernel : Cert.Pre_pi_1023_Kernel.Facts) (hPre_pi_1032_Kernel : Cert.Pre_pi_1032_Kernel.Facts) (hPre_pi_1203_Kernel : Cert.Pre_pi_1203_Kernel.Facts) (hPre_pi_1230_Kernel : Cert.Pre_pi_1230_Kernel.Facts) (hPre_pi_1302_Kernel : Cert.Pre_pi_1302_Kernel.Facts) (hPre_pi_1320_Kernel : Cert.Pre_pi_1320_Kernel.Facts) (hPre_pi_2013_Kernel : Cert.Pre_pi_2013_Kernel.Facts) (hPre_pi_2031_Kernel : Cert.Pre_pi_2031_Kernel.Facts) (hPre_pi_2103_Kernel : Cert.Pre_pi_2103_Kernel.Facts) (hPre_pi_2130_Kernel : Cert.Pre_pi_2130_Kernel.Facts) (hPre_pi_2301_Kernel : Cert.Pre_pi_2301_Kernel.Facts) (hPre_pi_2310_Kernel : Cert.Pre_pi_2310_Kernel.Facts) (hPre_pi_3012_Kernel : Cert.Pre_pi_3012_Kernel.Facts) (hPre_pi_3021_Kernel : Cert.Pre_pi_3021_Kernel.Facts) (hPre_pi_3102_Kernel : Cert.Pre_pi_3102_Kernel.Facts) (hPre_pi_3120_Kernel : Cert.Pre_pi_3120_Kernel.Facts) (hPre_pi_3201_Kernel : Cert.Pre_pi_3201_Kernel.Facts) (hPre_pi_3210_Kernel : Cert.Pre_pi_3210_Kernel.Facts) (hPre_pi_0123_ReferenceIdeal : Cert.Pre_pi_0123_ReferenceIdeal.Facts) (hPre_pi_0132_ReferenceIdeal : Cert.Pre_pi_0132_ReferenceIdeal.Facts) (hPre_pi_0213_ReferenceIdeal : Cert.Pre_pi_0213_ReferenceIdeal.Facts) (hPre_pi_0231_ReferenceIdeal : Cert.Pre_pi_0231_ReferenceIdeal.Facts) (hPre_pi_0312_ReferenceIdeal : Cert.Pre_pi_0312_ReferenceIdeal.Facts) (hPre_pi_0321_ReferenceIdeal : Cert.Pre_pi_0321_ReferenceIdeal.Facts) (hPre_pi_1023_ReferenceIdeal : Cert.Pre_pi_1023_ReferenceIdeal.Facts) (hPre_pi_1032_ReferenceIdeal : Cert.Pre_pi_1032_ReferenceIdeal.Facts) (hPre_pi_1203_ReferenceIdeal : Cert.Pre_pi_1203_ReferenceIdeal.Facts) (hPre_pi_1230_ReferenceIdeal : Cert.Pre_pi_1230_ReferenceIdeal.Facts) (hPre_pi_1302_ReferenceIdeal : Cert.Pre_pi_1302_ReferenceIdeal.Facts) (hPre_pi_1320_ReferenceIdeal : Cert.Pre_pi_1320_ReferenceIdeal.Facts) (hPre_pi_2013_ReferenceIdeal : Cert.Pre_pi_2013_ReferenceIdeal.Facts) (hPre_pi_2031_ReferenceIdeal : Cert.Pre_pi_2031_ReferenceIdeal.Facts) (hPre_pi_2103_ReferenceIdeal : Cert.Pre_pi_2103_ReferenceIdeal.Facts) (hPre_pi_2130_ReferenceIdeal : Cert.Pre_pi_2130_ReferenceIdeal.Facts) (hPre_pi_2301_ReferenceIdeal : Cert.Pre_pi_2301_ReferenceIdeal.Facts) (hPre_pi_2310_ReferenceIdeal : Cert.Pre_pi_2310_ReferenceIdeal.Facts) (hPre_pi_3012_ReferenceIdeal : Cert.Pre_pi_3012_ReferenceIdeal.Facts) (hPre_pi_3021_ReferenceIdeal : Cert.Pre_pi_3021_ReferenceIdeal.Facts) (hPre_pi_3102_ReferenceIdeal : Cert.Pre_pi_3102_ReferenceIdeal.Facts) (hPre_pi_3120_ReferenceIdeal : Cert.Pre_pi_3120_ReferenceIdeal.Facts) (hPre_pi_3201_ReferenceIdeal : Cert.Pre_pi_3201_ReferenceIdeal.Facts) (hPre_pi_3210_ReferenceIdeal : Cert.Pre_pi_3210_ReferenceIdeal.Facts),
    quiescent_Kernel (hKernel := hKernel) (hPre_pi_0123_Kernel := hPre_pi_0123_Kernel)
    ∧ quiescent_Kernel_pre_pi_0132_Kernel (hKernel := hKernel) (hPre_pi_0132_Kernel := hPre_pi_0132_Kernel)
    ∧ quiescent_Kernel_pre_pi_0213_Kernel (hKernel := hKernel) (hPre_pi_0213_Kernel := hPre_pi_0213_Kernel)
    ∧ quiescent_Kernel_pre_pi_0231_Kernel (hKernel := hKernel) (hPre_pi_0231_Kernel := hPre_pi_0231_Kernel)
    ∧ quiescent_Kernel_pre_pi_0312_Kernel (hKernel := hKernel) (hPre_pi_0312_Kernel := hPre_pi_0312_Kernel)
    ∧ quiescent_Kernel_pre_pi_0321_Kernel (hKernel := hKernel) (hPre_pi_0321_Kernel := hPre_pi_0321_Kernel)
    ∧ quiescent_Kernel_pre_pi_1023_Kernel (hKernel := hKernel) (hPre_pi_1023_Kernel := hPre_pi_1023_Kernel)
    ∧ quiescent_Kernel_pre_pi_1032_Kernel (hKernel := hKernel) (hPre_pi_1032_Kernel := hPre_pi_1032_Kernel)
    ∧ quiescent_Kernel_pre_pi_1203_Kernel (hKernel := hKernel) (hPre_pi_1203_Kernel := hPre_pi_1203_Kernel)
    ∧ quiescent_Kernel_pre_pi_1230_Kernel (hKernel := hKernel) (hPre_pi_1230_Kernel := hPre_pi_1230_Kernel)
    ∧ quiescent_Kernel_pre_pi_1302_Kernel (hKernel := hKernel) (hPre_pi_1302_Kernel := hPre_pi_1302_Kernel)
    ∧ quiescent_Kernel_pre_pi_1320_Kernel (hKernel := hKernel) (hPre_pi_1320_Kernel := hPre_pi_1320_Kernel)
    ∧ quiescent_Kernel_pre_pi_2013_Kernel (hKernel := hKernel) (hPre_pi_2013_Kernel := hPre_pi_2013_Kernel)
    ∧ quiescent_Kernel_pre_pi_2031_Kernel (hKernel := hKernel) (hPre_pi_2031_Kernel := hPre_pi_2031_Kernel)
    ∧ quiescent_Kernel_pre_pi_2103_Kernel (hKernel := hKernel) (hPre_pi_2103_Kernel := hPre_pi_2103_Kernel)
    ∧ quiescent_Kernel_pre_pi_2130_Kernel (hKernel := hKernel) (hPre_pi_2130_Kernel := hPre_pi_2130_Kernel)
    ∧ quiescent_Kernel_pre_pi_2301_Kernel (hKernel := hKernel) (hPre_pi_2301_Kernel := hPre_pi_2301_Kernel)
    ∧ quiescent_Kernel_pre_pi_2310_Kernel (hKernel := hKernel) (hPre_pi_2310_Kernel := hPre_pi_2310_Kernel)
    ∧ quiescent_Kernel_pre_pi_3012_Kernel (hKernel := hKernel) (hPre_pi_3012_Kernel := hPre_pi_3012_Kernel)
    ∧ quiescent_Kernel_pre_pi_3021_Kernel (hKernel := hKernel) (hPre_pi_3021_Kernel := hPre_pi_3021_Kernel)
    ∧ quiescent_Kernel_pre_pi_3102_Kernel (hKernel := hKernel) (hPre_pi_3102_Kernel := hPre_pi_3102_Kernel)
    ∧ quiescent_Kernel_pre_pi_3120_Kernel (hKernel := hKernel) (hPre_pi_3120_Kernel := hPre_pi_3120_Kernel)
    ∧ quiescent_Kernel_pre_pi_3201_Kernel (hKernel := hKernel) (hPre_pi_3201_Kernel := hPre_pi_3201_Kernel)
    ∧ quiescent_Kernel_pre_pi_3210_Kernel (hKernel := hKernel) (hPre_pi_3210_Kernel := hPre_pi_3210_Kernel)
    ∧ quiescent_KernelIdeal (hKernelIdeal := hKernelIdeal) (hPre_pi_0123_Kernel := hPre_pi_0123_Kernel)
    ∧ quiescent_KernelIdeal_pre_pi_0132_Kernel (hKernelIdeal := hKernelIdeal) (hPre_pi_0132_Kernel := hPre_pi_0132_Kernel)
    ∧ quiescent_KernelIdeal_pre_pi_0213_Kernel (hKernelIdeal := hKernelIdeal) (hPre_pi_0213_Kernel := hPre_pi_0213_Kernel)
    ∧ quiescent_KernelIdeal_pre_pi_0231_Kernel (hKernelIdeal := hKernelIdeal) (hPre_pi_0231_Kernel := hPre_pi_0231_Kernel)
    ∧ quiescent_KernelIdeal_pre_pi_0312_Kernel (hKernelIdeal := hKernelIdeal) (hPre_pi_0312_Kernel := hPre_pi_0312_Kernel)
    ∧ quiescent_KernelIdeal_pre_pi_0321_Kernel (hKernelIdeal := hKernelIdeal) (hPre_pi_0321_Kernel := hPre_pi_0321_Kernel)
    ∧ quiescent_KernelIdeal_pre_pi_1023_Kernel (hKernelIdeal := hKernelIdeal) (hPre_pi_1023_Kernel := hPre_pi_1023_Kernel)
    ∧ quiescent_KernelIdeal_pre_pi_1032_Kernel (hKernelIdeal := hKernelIdeal) (hPre_pi_1032_Kernel := hPre_pi_1032_Kernel)
    ∧ quiescent_KernelIdeal_pre_pi_1203_Kernel (hKernelIdeal := hKernelIdeal) (hPre_pi_1203_Kernel := hPre_pi_1203_Kernel)
    ∧ quiescent_KernelIdeal_pre_pi_1230_Kernel (hKernelIdeal := hKernelIdeal) (hPre_pi_1230_Kernel := hPre_pi_1230_Kernel)
    ∧ quiescent_KernelIdeal_pre_pi_1302_Kernel (hKernelIdeal := hKernelIdeal) (hPre_pi_1302_Kernel := hPre_pi_1302_Kernel)
    ∧ quiescent_KernelIdeal_pre_pi_1320_Kernel (hKernelIdeal := hKernelIdeal) (hPre_pi_1320_Kernel := hPre_pi_1320_Kernel)
    ∧ quiescent_KernelIdeal_pre_pi_2013_Kernel (hKernelIdeal := hKernelIdeal) (hPre_pi_2013_Kernel := hPre_pi_2013_Kernel)
    ∧ quiescent_KernelIdeal_pre_pi_2031_Kernel (hKernelIdeal := hKernelIdeal) (hPre_pi_2031_Kernel := hPre_pi_2031_Kernel)
    ∧ quiescent_KernelIdeal_pre_pi_2103_Kernel (hKernelIdeal := hKernelIdeal) (hPre_pi_2103_Kernel := hPre_pi_2103_Kernel)
    ∧ quiescent_KernelIdeal_pre_pi_2130_Kernel (hKernelIdeal := hKernelIdeal) (hPre_pi_2130_Kernel := hPre_pi_2130_Kernel)
    ∧ quiescent_KernelIdeal_pre_pi_2301_Kernel (hKernelIdeal := hKernelIdeal) (hPre_pi_2301_Kernel := hPre_pi_2301_Kernel)
    ∧ quiescent_KernelIdeal_pre_pi_2310_Kernel (hKernelIdeal := hKernelIdeal) (hPre_pi_2310_Kernel := hPre_pi_2310_Kernel)
    ∧ quiescent_KernelIdeal_pre_pi_3012_Kernel (hKernelIdeal := hKernelIdeal) (hPre_pi_3012_Kernel := hPre_pi_3012_Kernel)
    ∧ quiescent_KernelIdeal_pre_pi_3021_Kernel (hKernelIdeal := hKernelIdeal) (hPre_pi_3021_Kernel := hPre_pi_3021_Kernel)
    ∧ quiescent_KernelIdeal_pre_pi_3102_Kernel (hKernelIdeal := hKernelIdeal) (hPre_pi_3102_Kernel := hPre_pi_3102_Kernel)
    ∧ quiescent_KernelIdeal_pre_pi_3120_Kernel (hKernelIdeal := hKernelIdeal) (hPre_pi_3120_Kernel := hPre_pi_3120_Kernel)
    ∧ quiescent_KernelIdeal_pre_pi_3201_Kernel (hKernelIdeal := hKernelIdeal) (hPre_pi_3201_Kernel := hPre_pi_3201_Kernel)
    ∧ quiescent_KernelIdeal_pre_pi_3210_Kernel (hKernelIdeal := hKernelIdeal) (hPre_pi_3210_Kernel := hPre_pi_3210_Kernel)
    ∧ quiescent_ReferenceIdeal (hReferenceIdeal := hReferenceIdeal)
    ∧ quiescent_ReferenceIdeal_pre_pi_0123_ReferenceIdeal (hReferenceIdeal := hReferenceIdeal) (hPre_pi_0123_ReferenceIdeal := hPre_pi_0123_ReferenceIdeal)
    ∧ quiescent_ReferenceIdeal_pre_pi_0132_ReferenceIdeal (hReferenceIdeal := hReferenceIdeal) (hPre_pi_0132_ReferenceIdeal := hPre_pi_0132_ReferenceIdeal)
    ∧ quiescent_ReferenceIdeal_pre_pi_0213_ReferenceIdeal (hReferenceIdeal := hReferenceIdeal) (hPre_pi_0213_ReferenceIdeal := hPre_pi_0213_ReferenceIdeal)
    ∧ quiescent_ReferenceIdeal_pre_pi_0231_ReferenceIdeal (hReferenceIdeal := hReferenceIdeal) (hPre_pi_0231_ReferenceIdeal := hPre_pi_0231_ReferenceIdeal)
    ∧ quiescent_ReferenceIdeal_pre_pi_0312_ReferenceIdeal (hReferenceIdeal := hReferenceIdeal) (hPre_pi_0312_ReferenceIdeal := hPre_pi_0312_ReferenceIdeal)
    ∧ quiescent_ReferenceIdeal_pre_pi_0321_ReferenceIdeal (hReferenceIdeal := hReferenceIdeal) (hPre_pi_0321_ReferenceIdeal := hPre_pi_0321_ReferenceIdeal)
    ∧ quiescent_ReferenceIdeal_pre_pi_1023_ReferenceIdeal (hReferenceIdeal := hReferenceIdeal) (hPre_pi_1023_ReferenceIdeal := hPre_pi_1023_ReferenceIdeal)
    ∧ quiescent_ReferenceIdeal_pre_pi_1032_ReferenceIdeal (hReferenceIdeal := hReferenceIdeal) (hPre_pi_1032_ReferenceIdeal := hPre_pi_1032_ReferenceIdeal)
    ∧ quiescent_ReferenceIdeal_pre_pi_1203_ReferenceIdeal (hReferenceIdeal := hReferenceIdeal) (hPre_pi_1203_ReferenceIdeal := hPre_pi_1203_ReferenceIdeal)
    ∧ quiescent_ReferenceIdeal_pre_pi_1230_ReferenceIdeal (hReferenceIdeal := hReferenceIdeal) (hPre_pi_1230_ReferenceIdeal := hPre_pi_1230_ReferenceIdeal)
    ∧ quiescent_ReferenceIdeal_pre_pi_1302_ReferenceIdeal (hReferenceIdeal := hReferenceIdeal) (hPre_pi_1302_ReferenceIdeal := hPre_pi_1302_ReferenceIdeal)
    ∧ quiescent_ReferenceIdeal_pre_pi_1320_ReferenceIdeal (hReferenceIdeal := hReferenceIdeal) (hPre_pi_1320_ReferenceIdeal := hPre_pi_1320_ReferenceIdeal)
    ∧ quiescent_ReferenceIdeal_pre_pi_2013_ReferenceIdeal (hReferenceIdeal := hReferenceIdeal) (hPre_pi_2013_ReferenceIdeal := hPre_pi_2013_ReferenceIdeal)
    ∧ quiescent_ReferenceIdeal_pre_pi_2031_ReferenceIdeal (hReferenceIdeal := hReferenceIdeal) (hPre_pi_2031_ReferenceIdeal := hPre_pi_2031_ReferenceIdeal)
    ∧ quiescent_ReferenceIdeal_pre_pi_2103_ReferenceIdeal (hReferenceIdeal := hReferenceIdeal) (hPre_pi_2103_ReferenceIdeal := hPre_pi_2103_ReferenceIdeal)
    ∧ quiescent_ReferenceIdeal_pre_pi_2130_ReferenceIdeal (hReferenceIdeal := hReferenceIdeal) (hPre_pi_2130_ReferenceIdeal := hPre_pi_2130_ReferenceIdeal)
    ∧ quiescent_ReferenceIdeal_pre_pi_2301_ReferenceIdeal (hReferenceIdeal := hReferenceIdeal) (hPre_pi_2301_ReferenceIdeal := hPre_pi_2301_ReferenceIdeal)
    ∧ quiescent_ReferenceIdeal_pre_pi_2310_ReferenceIdeal (hReferenceIdeal := hReferenceIdeal) (hPre_pi_2310_ReferenceIdeal := hPre_pi_2310_ReferenceIdeal)
    ∧ quiescent_ReferenceIdeal_pre_pi_3012_ReferenceIdeal (hReferenceIdeal := hReferenceIdeal) (hPre_pi_3012_ReferenceIdeal := hPre_pi_3012_ReferenceIdeal)
    ∧ quiescent_ReferenceIdeal_pre_pi_3021_ReferenceIdeal (hReferenceIdeal := hReferenceIdeal) (hPre_pi_3021_ReferenceIdeal := hPre_pi_3021_ReferenceIdeal)
    ∧ quiescent_ReferenceIdeal_pre_pi_3102_ReferenceIdeal (hReferenceIdeal := hReferenceIdeal) (hPre_pi_3102_ReferenceIdeal := hPre_pi_3102_ReferenceIdeal)
    ∧ quiescent_ReferenceIdeal_pre_pi_3120_ReferenceIdeal (hReferenceIdeal := hReferenceIdeal) (hPre_pi_3120_ReferenceIdeal := hPre_pi_3120_ReferenceIdeal)
    ∧ quiescent_ReferenceIdeal_pre_pi_3201_ReferenceIdeal (hReferenceIdeal := hReferenceIdeal) (hPre_pi_3201_ReferenceIdeal := hPre_pi_3201_ReferenceIdeal)
    ∧ quiescent_ReferenceIdeal_pre_pi_3210_ReferenceIdeal (hReferenceIdeal := hReferenceIdeal) (hPre_pi_3210_ReferenceIdeal := hPre_pi_3210_ReferenceIdeal)
    ∧ preserves_Kernel_KernelIdeal
    ∧ algebraic_KernelIdeal_ReferenceIdeal (hKernelIdeal := hKernelIdeal) (hReferenceIdeal := hReferenceIdeal) (hPre_pi_0123_Kernel := hPre_pi_0123_Kernel)
    ∧ algebraic_KernelIdeal_ReferenceIdeal_pre_pi_0132_Kernel (hKernelIdeal := hKernelIdeal) (hReferenceIdeal := hReferenceIdeal) (hPre_pi_0132_Kernel := hPre_pi_0132_Kernel)
    ∧ algebraic_KernelIdeal_ReferenceIdeal_pre_pi_0213_Kernel (hKernelIdeal := hKernelIdeal) (hReferenceIdeal := hReferenceIdeal) (hPre_pi_0213_Kernel := hPre_pi_0213_Kernel)
    ∧ algebraic_KernelIdeal_ReferenceIdeal_pre_pi_0231_Kernel (hKernelIdeal := hKernelIdeal) (hReferenceIdeal := hReferenceIdeal) (hPre_pi_0231_Kernel := hPre_pi_0231_Kernel)
    ∧ algebraic_KernelIdeal_ReferenceIdeal_pre_pi_0312_Kernel (hKernelIdeal := hKernelIdeal) (hReferenceIdeal := hReferenceIdeal) (hPre_pi_0312_Kernel := hPre_pi_0312_Kernel)
    ∧ algebraic_KernelIdeal_ReferenceIdeal_pre_pi_0321_Kernel (hKernelIdeal := hKernelIdeal) (hReferenceIdeal := hReferenceIdeal) (hPre_pi_0321_Kernel := hPre_pi_0321_Kernel)
    ∧ algebraic_KernelIdeal_ReferenceIdeal_pre_pi_1023_Kernel (hKernelIdeal := hKernelIdeal) (hReferenceIdeal := hReferenceIdeal) (hPre_pi_1023_Kernel := hPre_pi_1023_Kernel)
    ∧ algebraic_KernelIdeal_ReferenceIdeal_pre_pi_1032_Kernel (hKernelIdeal := hKernelIdeal) (hReferenceIdeal := hReferenceIdeal) (hPre_pi_1032_Kernel := hPre_pi_1032_Kernel)
    ∧ algebraic_KernelIdeal_ReferenceIdeal_pre_pi_1203_Kernel (hKernelIdeal := hKernelIdeal) (hReferenceIdeal := hReferenceIdeal) (hPre_pi_1203_Kernel := hPre_pi_1203_Kernel)
    ∧ algebraic_KernelIdeal_ReferenceIdeal_pre_pi_1230_Kernel (hKernelIdeal := hKernelIdeal) (hReferenceIdeal := hReferenceIdeal) (hPre_pi_1230_Kernel := hPre_pi_1230_Kernel)
    ∧ algebraic_KernelIdeal_ReferenceIdeal_pre_pi_1302_Kernel (hKernelIdeal := hKernelIdeal) (hReferenceIdeal := hReferenceIdeal) (hPre_pi_1302_Kernel := hPre_pi_1302_Kernel)
    ∧ algebraic_KernelIdeal_ReferenceIdeal_pre_pi_1320_Kernel (hKernelIdeal := hKernelIdeal) (hReferenceIdeal := hReferenceIdeal) (hPre_pi_1320_Kernel := hPre_pi_1320_Kernel)
    ∧ algebraic_KernelIdeal_ReferenceIdeal_pre_pi_2013_Kernel (hKernelIdeal := hKernelIdeal) (hReferenceIdeal := hReferenceIdeal) (hPre_pi_2013_Kernel := hPre_pi_2013_Kernel)
    ∧ algebraic_KernelIdeal_ReferenceIdeal_pre_pi_2031_Kernel (hKernelIdeal := hKernelIdeal) (hReferenceIdeal := hReferenceIdeal) (hPre_pi_2031_Kernel := hPre_pi_2031_Kernel)
    ∧ algebraic_KernelIdeal_ReferenceIdeal_pre_pi_2103_Kernel (hKernelIdeal := hKernelIdeal) (hReferenceIdeal := hReferenceIdeal) (hPre_pi_2103_Kernel := hPre_pi_2103_Kernel)
    ∧ algebraic_KernelIdeal_ReferenceIdeal_pre_pi_2130_Kernel (hKernelIdeal := hKernelIdeal) (hReferenceIdeal := hReferenceIdeal) (hPre_pi_2130_Kernel := hPre_pi_2130_Kernel)
    ∧ algebraic_KernelIdeal_ReferenceIdeal_pre_pi_2301_Kernel (hKernelIdeal := hKernelIdeal) (hReferenceIdeal := hReferenceIdeal) (hPre_pi_2301_Kernel := hPre_pi_2301_Kernel)
    ∧ algebraic_KernelIdeal_ReferenceIdeal_pre_pi_2310_Kernel (hKernelIdeal := hKernelIdeal) (hReferenceIdeal := hReferenceIdeal) (hPre_pi_2310_Kernel := hPre_pi_2310_Kernel)
    ∧ algebraic_KernelIdeal_ReferenceIdeal_pre_pi_3012_Kernel (hKernelIdeal := hKernelIdeal) (hReferenceIdeal := hReferenceIdeal) (hPre_pi_3012_Kernel := hPre_pi_3012_Kernel)
    ∧ algebraic_KernelIdeal_ReferenceIdeal_pre_pi_3021_Kernel (hKernelIdeal := hKernelIdeal) (hReferenceIdeal := hReferenceIdeal) (hPre_pi_3021_Kernel := hPre_pi_3021_Kernel)
    ∧ algebraic_KernelIdeal_ReferenceIdeal_pre_pi_3102_Kernel (hKernelIdeal := hKernelIdeal) (hReferenceIdeal := hReferenceIdeal) (hPre_pi_3102_Kernel := hPre_pi_3102_Kernel)
    ∧ algebraic_KernelIdeal_ReferenceIdeal_pre_pi_3120_Kernel (hKernelIdeal := hKernelIdeal) (hReferenceIdeal := hReferenceIdeal) (hPre_pi_3120_Kernel := hPre_pi_3120_Kernel)
    ∧ algebraic_KernelIdeal_ReferenceIdeal_pre_pi_3201_Kernel (hKernelIdeal := hKernelIdeal) (hReferenceIdeal := hReferenceIdeal) (hPre_pi_3201_Kernel := hPre_pi_3201_Kernel)
    ∧ algebraic_KernelIdeal_ReferenceIdeal_pre_pi_3210_Kernel (hKernelIdeal := hKernelIdeal) (hReferenceIdeal := hReferenceIdeal) (hPre_pi_3210_Kernel := hPre_pi_3210_Kernel)
-- ==== Pre_pi_0123_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_0123_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_0132_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_0132_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_0213_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_0213_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_0231_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_0231_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_0312_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_0312_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_0321_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_0321_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_1023_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_1023_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_1032_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_1032_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_1203_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_1203_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_1230_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_1230_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_1302_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_1302_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_1320_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_1320_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_2013_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_2013_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_2031_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_2031_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_2103_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_2103_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_2130_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_2130_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_2301_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_2301_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_2310_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_2310_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_3012_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_3012_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_3021_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_3021_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_3102_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_3102_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_3120_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_3120_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_3201_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_3201_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_3210_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x512x512 .bf16) (main_arg1 : IVec S4 32) : IVec S4 1 :=
  let main_c : IVec S4 32 := fun i => lit0 (S4.rowMajor i)
  let main_v0 : IVec S4 1 := cmpi .eq main_arg1 main_c
  main_v0
-- ==== Pre_pi_3210_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x512x512 .bf16) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x512x512 : Shape := ⟨3, ![1, 512, 512]⟩
abbrev S4 : Shape := ⟨1, ![4]⟩
abbrev S512x512 : Shape := ⟨2, ![512, 512]⟩
abbrev S1 : Shape := ⟨1, ![1]⟩
abbrev S_ : Shape := ⟨0, ![]⟩
abbrev S1x128x512 : Shape := ⟨3, ![1, 128, 512]⟩
abbrev S128x512 : Shape := ⟨2, ![128, 512]⟩

abbrev nBuf : Space → Nat
  | .hbm => 3
  | .vmem => 3
  | .smem => 1
  | _ => 0

abbrev bufTy : (tb : Table) → Fin (tcTables nBuf tb) → BufTy
  | .hbm, ⟨0, _⟩ => ⟨S1x512x512, .bf16⟩
  | .hbm, ⟨1, _⟩ => ⟨S4, .i32⟩
  | .hbm, ⟨2, _⟩ => ⟨S1x512x512, .bf16⟩
  | .local _ .vmem, ⟨0, _⟩ => ⟨S1x512x512, .bf16⟩
  | .local _ .vmem, ⟨1, _⟩ => ⟨S1x512x512, .bf16⟩
  | .local _ .vmem, ⟨2, _⟩ => ⟨S512x512, .bf16⟩
  | .local _ .smem, ⟨0, _⟩ => ⟨S4, .i32⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : Index := Scalar.indexCast v2
  ![v3.toNat]
def k0_dev1 (d0 : Dev nD) (v5 : BitVec 32) (v8 : BitVec 32) (v11 : BitVec 32) (v14 : BitVec 32) : Nat :=
  let c0_i32_4 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 1 := Scalar.cmpi .eq v14 v2
  let c3_i32 : BitVec 32 := 3#32
  let v12 : BitVec 1 := Scalar.cmpi .eq v11 v2
  let c2_i32 : BitVec 32 := 2#32
  let v9 : BitVec 1 := Scalar.cmpi .eq v8 v2
  let c1_i32_1 : BitVec 32 := 1#32
  let v6 : BitVec 1 := Scalar.cmpi .eq v5 v2
  let c0_i32 : BitVec 32 := 0#32
  let c0_i32_0 : BitVec 32 := 0#32
  let v7 : BitVec 32 := Scalar.select v6 c0_i32 c0_i32_0
  let v10 : BitVec 32 := Scalar.select v9 c1_i32_1 v7
  let v13 : BitVec 32 := Scalar.select v12 c2_i32 v10
  let v16 : BitVec 32 := Scalar.select v15 c3_i32 v13
  let c1_i32_3 : BitVec 32 := 1#32
  let v18 : BitVec 32 := Scalar.muli v16 c1_i32_3
  let v19 : BitVec 32 := Scalar.addi c0_i32_4 v18
  v19.toNat

def k0_chk1 (d0 : Dev nD) (v5 : BitVec 32) (v8 : BitVec 32) (v11 : BitVec 32) (v14 : BitVec 32) : Prop :=
  ((k0_dev1 d0 v5 v8 v11 v14) < nD)
theorem k0_dev1_lt : ∀ (d0 : Dev nD) (v5 : BitVec 32) (v8 : BitVec 32) (v11 : BitVec 32) (v14 : BitVec 32) (k0_hw1 : k0_chk1 d0 v5 v8 v11 v14), (k0_dev1 d0 v5 v8 v11 v14) < nD := fun d0 v5 v8 v11 v14 k0_hw1 => k0_hw1

def k0_dev2 (v4 : BitVec 32) : Nat :=
  let c0_i32_15 : BitVec 32 := 0#32
  let c1_i32_14 : BitVec 32 := 1#32
  let v25 : BitVec 32 := Scalar.muli v4 c1_i32_14
  let v26 : BitVec 32 := Scalar.addi c0_i32_15 v25
  v26.toNat

def k0_dev3 (v4 : BitVec 32) : Nat :=
  let c0_i32_30 : BitVec 32 := 0#32
  let c1_i32_29 : BitVec 32 := 1#32
  let v40 : BitVec 32 := Scalar.muli v4 c1_i32_29
  let v41 : BitVec 32 := Scalar.addi c0_i32_30 v40
  v41.toNat
def k0_dev4 (v4 : BitVec 32) : Nat :=
  let c0_i32_44 : BitVec 32 := 0#32
  let c1_i32_43 : BitVec 32 := 1#32
  let v55 : BitVec 32 := Scalar.muli v4 c1_i32_43
  let v56 : BitVec 32 := Scalar.addi c0_i32_44 v55
  v56.toNat
def k0_dev5 (v4 : BitVec 32) : Nat :=
  let c0_i32_58 : BitVec 32 := 0#32
  let c1_i32_57 : BitVec 32 := 1#32
  let v70 : BitVec 32 := Scalar.muli v4 c1_i32_57
  let v71 : BitVec 32 := Scalar.addi c0_i32_58 v70
  v71.toNat

def k0_chk2 (v4 : BitVec 32) : Prop :=
  ((k0_dev2 v4) < nD) ∧
  ((k0_dev3 v4) < nD) ∧
  ((k0_dev4 v4) < nD) ∧
  ((k0_dev5 v4) < nD)
theorem k0_dev2_lt : ∀ (v4 : BitVec 32) (k0_hw2 : k0_chk2 v4), (k0_dev2 v4) < nD := fun v4 k0_hw2 => k0_hw2.1
theorem k0_dev3_lt : ∀ (v4 : BitVec 32) (k0_hw2 : k0_chk2 v4), (k0_dev3 v4) < nD := fun v4 k0_hw2 => k0_hw2.2.1
theorem k0_dev4_lt : ∀ (v4 : BitVec 32) (k0_hw2 : k0_chk2 v4), (k0_dev4 v4) < nD := fun v4 k0_hw2 => k0_hw2.2.2.1
theorem k0_dev5_lt : ∀ (v4 : BitVec 32) (k0_hw2 : k0_chk2 v4), (k0_dev5 v4) < nD := fun v4 k0_hw2 => k0_hw2.2.2.2

abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x512x512 : Shape := ⟨3, ![4, 512, 512]⟩
abbrev S4 : Shape := ⟨1, ![4]⟩
abbrev S_ : Shape := ⟨0, ![]⟩
abbrev S4x1 : Shape := ⟨2, ![4, 1]⟩

abbrev nBuf : Space → Nat
  | .hbm => 16
  | .vmem => 0
  | .smem => 0
  | _ => 0

abbrev bufTy : (tb : Table) → Fin (tcTables nBuf tb) → BufTy
  | .hbm, ⟨0, _⟩ => ⟨S4x512x512, .bf16⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x512x512, .bf16⟩
  | .hbm, ⟨14, _⟩ => ⟨S4x512x512, .f32⟩
  | .hbm, ⟨15, _⟩ => ⟨S4x512x512, .bf16⟩
  | _, _ => ⟨S4x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Table.lean ====
/-
# The table `pi`, read as words

Every device holds the same table of four words, word `i` naming the device that device `i` sends its block to. Where
the table is a permutation `σ` of the four devices, the kernel's own arithmetic on the words names two devices: the one
whose entry is `c` (searched through the four words, `k0_dev1`), which is `σ⁻¹ c`, and entry `c` itself (`k0_dev2` to
`k0_dev5`, one for each of the four copies), which is `σ c`.
-/
module

public import proofs.«01_k».proof.Proof.Gen.KernelIdeal
public import proofs.«01_k».proof.Proof.Gen.KernelIdeal.Skeleton

@[expose] public section

noncomputable section

namespace Cert.Permute

open Cert.KernelIdeal Cert.KernelIdeal.Gen
open Idealize.ShloMosaic

/-- The word that names device `d`. -/
abbrev wordOf (d : Dev nD) : BitVec 32 := BitVec.ofNat 32 d.val

/-! ## The kernel's device arithmetic at the words of four devices -/

/-- The search through the four words finds the one entry that is `c`, if exactly one is. -/
theorem search_eq : ∀ c w0 w1 w2 w3 s : Fin 4, (∀ i : Fin 4, (![w0, w1, w2, w3] : Fin 4 → Fin 4) i = c ↔ i = s) →
    k0_dev1 c (BitVec.ofNat 32 w0.val) (BitVec.ofNat 32 w1.val) (BitVec.ofNat 32 w2.val) (BitVec.ofNat 32 w3.val) = s.val := by
  decide +kernel

/-- The word of a device passes the check the kernel makes of the device it copies to, -/
theorem chk2_word (d : Dev nD) : k0_chk2 (wordOf d) := by revert d; decide
/-- and each of the four copies goes to that device. -/
theorem dev2_word (d : Dev nD) : k0_dev2 (wordOf d) = d.val := by revert d; decide
theorem dev3_word (d : Dev nD) : k0_dev3 (wordOf d) = d.val := by revert d; decide
theorem dev4_word (d : Dev nD) : k0_dev4 (wordOf d) = d.val := by revert d; decide
theorem dev5_word (d : Dev nD) : k0_dev5 (wordOf d) = d.val := by revert d; decide

/-- In the words of a permutation the search finds the device whose entry is `c`. -/
theorem search_perm (σ : Equiv.Perm (Dev nD)) (c : Dev nD) :
    k0_dev1 c (wordOf (σ 0)) (wordOf (σ 1)) (wordOf (σ 2)) (wordOf (σ 3)) = (σ.symm c).val :=
  search_eq c (σ 0) (σ 1) (σ 2) (σ 3) (σ.symm c) fun i => by
    have h : (![σ 0, σ 1, σ 2, σ 3] : Fin 4 → Fin 4) i = σ i := by fin_cases i <;> rfl
    rw [h]; exact (Equiv.eq_symm_apply σ).symm

/-! ## The tables of the four words -/

/-- The place of word `i` in a table. -/
abbrev at4 (i : Fin 4) : S4.Idx := fun a => ⟨i.val, by have := i.isLt; fin_cases a; exact this⟩

/-- Table `t` is the permutation `σ`: its word `i` names device `σ i`. -/
def IsTable (σ : Equiv.Perm (Dev nD)) (t : IVec S4 32) : Prop := ∀ i : Fin 4, t (at4 i) = wordOf (σ i)

theorem eq_at4 (j : S4.Idx) : j = at4 (j 0) := funext fun a => by fin_cases a; rfl

end Cert.Permute

end
-- ==== Proof.Chunks.lean ====
/-
# The four chunks

The kernel moves a block of 512 rows as four chunks of 128 rows. Chunk `k` of the sending buffer and chunk `k` of the
result's buffer are the rows `128 k` to `128 k + 127`. The four chunks of a buffer are disjoint and cover it, so owning
the buffer is owning its chunks; and a chunk loaded from the staged block, stored to the sending buffer and copied to the
result's buffer lands as that chunk of the block.
-/
module

public import proofs.«01_k».proof.Proof.Table
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.ViewIndex
public import Idealize.ShloMosaic.Lib.Tactic

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The memrefs -/

abbrev xM : Memref sig .tc .vmem S1x512x512 .bf16 := Memref.whole cc0_stg0_0
abbrev tM : Memref sig .tc .smem S4 .i32 := Memref.whole cc0_stg1_0
abbrev oM : Memref sig .tc .vmem S1x512x512 .bf16 := Memref.whole cc0_stg2_0
abbrev bM : Memref sig .tc .vmem S512x512 .bf16 := Memref.whole cc0_scratch0

theorem inb3 (k : Fin 4) : ∀ a, (![0, 128 * k.val, 0] : Fin 3 → Nat) a + S1x128x512.size a ≤ S1x512x512.size a := by
  revert k; decide
theorem inb2 (k : Fin 4) : ∀ a, (![128 * k.val, 0] : Fin 2 → Nat) a + S128x512.size a ≤ S512x512.size a := by
  revert k; decide

/-- The rows of chunk `k` in a block (one batch of 512 rows) and in the sending buffer. -/
abbrev rect3 (k : Fin 4) : Rect S1x512x512 := Rect.unit (s := S1x512x512) ![0, 128 * k.val, 0] S1x128x512.size (inb3 k)
abbrev rect2 (k : Fin 4) : Rect S512x512 := Rect.unit (s := S512x512) ![128 * k.val, 0] S128x512.size (inb2 k)

/-- Chunk `k` of the sending buffer, as the copies' source; -/
abbrev sndM (k : Fin 4) : Memref sig .tc .vmem S128x512 .bf16 := bM.slice (rect2 k) (fun _ => rfl)
/-- chunk `k` of the result's buffer, as the copies' target. -/
abbrev dstM (k : Fin 4) : Memref sig .tc .vmem S128x512 .bf16 := (oM.slice (rect3 k) (fun _ => rfl)).squeeze S128x512 squeezes_S1x128x512_S128x512

/-- A chunk's bytes, as the copies' semaphores count them. -/
abbrev N : ℕ := (sndM 0).view.dmaCredit
theorem N_pos : 0 < N := View.dmaCredit_pos _ (by decide)
theorem snd_credit (k : Fin 4) : (sndM k).view.dmaCredit = N := rfl
theorem dst_credit (k : Fin 4) : (dstM k).view.dmaCredit = N := rfl

/-! ## The chunks' places -/

abbrev sndSet (k : Fin 4) : Finset S512x512.Idx := (sndM k).view.set
abbrev dstSet (k : Fin 4) : Finset S1x512x512.Idx := (dstM k).view.set

/-- The places of chunk `k` of the sending buffer, -/
theorem snd_set (k : Fin 4) : sndSet k = (rect2 k).set := View.set_slice_whole _ _
/-- and of the result's buffer. -/
theorem dst_set (k : Fin 4) : dstSet k = (rect3 k).set :=
  (View.set_reshape _ _).trans (View.set_slice_whole _ _)

theorem mem_rect2 (k : Fin 4) (i : S512x512.Idx) : i ∈ (rect2 k).set ↔ 128 * k.val ≤ (i 0).val ∧ (i 0).val < 128 * k.val + 128 := by
  rw [Rect.mem_set_unit]
  refine ⟨fun h => h 0, fun h a => ?_⟩
  have h1 : (i 1).val < 512 := (i 1).isLt
  fin_cases a
  · exact h
  · exact ⟨Nat.zero_le _, by show (i 1).val < 0 + 512; omega⟩

theorem mem_rect3 (k : Fin 4) (i : S1x512x512.Idx) : i ∈ (rect3 k).set ↔ 128 * k.val ≤ (i 1).val ∧ (i 1).val < 128 * k.val + 128 := by
  rw [Rect.mem_set_unit]
  refine ⟨fun h => h 1, fun h a => ?_⟩
  have h0 : (i 0).val < 1 := (i 0).isLt
  have h2 : (i 2).val < 512 := (i 2).isLt
  fin_cases a
  · exact ⟨Nat.zero_le _, by show (i 0).val < 0 + 1; omega⟩
  · exact h
  · exact ⟨Nat.zero_le _, by show (i 2).val < 0 + 512; omega⟩

/-- Two chunks share no row; -/
theorem snd_disjoint (j : Fin 4) (_ : j ∈ (Finset.univ : Finset (Fin 4))) (k : Fin 4) (_ : k ∈ (Finset.univ : Finset (Fin 4))) (h : j ≠ k) :
    Disjoint (sndSet j) (sndSet k) := by
  rw [snd_set, snd_set, Finset.disjoint_left]
  intro i hj hk
  have := (mem_rect2 j i).mp hj; have := (mem_rect2 k i).mp hk
  exact h (Fin.ext (by omega))
theorem dst_disjoint (j : Fin 4) (_ : j ∈ (Finset.univ : Finset (Fin 4))) (k : Fin 4) (_ : k ∈ (Finset.univ : Finset (Fin 4))) (h : j ≠ k) :
    Disjoint (dstSet j) (dstSet k) := by
  rw [dst_set, dst_set, Finset.disjoint_left]
  intro i hj hk
  have := (mem_rect3 j i).mp hj; have := (mem_rect3 k i).mp hk
  exact h (Fin.ext (by omega))

/-- and the four chunks are all the rows. -/
theorem snd_cover : (Finset.univ : Finset (Fin 4)).biUnion sndSet = Finset.univ := by
  refine Finset.eq_univ_of_forall fun i => Finset.mem_biUnion.mpr ?_
  have h : (i 0).val < 512 := (i 0).isLt
  refine ⟨⟨(i 0).val / 128, by omega⟩, Finset.mem_univ _, ?_⟩
  rw [snd_set]; exact (mem_rect2 _ i).mpr (by constructor <;> dsimp only <;> omega)
theorem dst_cover : (Finset.univ : Finset (Fin 4)).biUnion dstSet = Finset.univ := by
  refine Finset.eq_univ_of_forall fun i => Finset.mem_biUnion.mpr ?_
  have h : (i 1).val < 512 := (i 1).isLt
  refine ⟨⟨(i 1).val / 128, by omega⟩, Finset.mem_univ _, ?_⟩
  rw [dst_set]; exact (mem_rect3 _ i).mpr (by constructor <;> dsimp only <;> omega)

/-! ## What is moved -/

/-- A chunk stored to the sending buffer, read back: the chunk of the block it was loaded from. -/
theorem stored_read (k : Fin 4) (f : (cc0_scratch0 : Ref sig .tc).ty.Contents (Elt F)) (X : (cc0_stg0_0 : Ref sig .tc).ty.Contents (Elt F)) :
    (sndM k).view.read (Elt F) ((bM.access (rect2 k) : View sig .tc _ _ _).write (Elt F) f
        (k0_pay1 (xM.view.readAt (Elt F) (rect3 k).toLoadRect X)) Finset.univ)
      = (dstM k).view.read (Elt F) X := by
  show (bM.access (rect2 k) : View sig .tc _ _ _).read (Elt F) _ = _
  rw [View.read_write_univ]
  unfold k0_pay1
  funext j
  dsimp only
  rw [shapeCast_apply _ _ j j rfl]
  rfl

/-- A chunk copied to the result's buffer: on the chunk's places the buffer then holds the block the chunk came from. -/
theorem landed_eq (k : Fin 4) (fd : (cc0_stg2_0 : Ref sig .tc).ty.Contents (Elt F)) (fs : (cc0_scratch0 : Ref sig .tc).ty.Contents (Elt F))
    (X : (cc0_stg0_0 : Ref sig .tc).ty.Contents (Elt F)) (h : (sndM k).view.read (Elt F) fs = (dstM k).view.read (Elt F) X) :
    ∀ i ∈ (dstM k).view.set, (dstM k).view.write (Elt F) fd ((sndM k).view.read (Elt F) fs) Finset.univ i = X i := by
  intro i hi
  obtain ⟨j, -, rfl⟩ := Finset.mem_map.mp hi
  rw [h]
  exact View.write_emb_of_mem _ _ (Finset.mem_univ j)

end Cert.Permute

end
-- ==== Proof.Protocol.lean ====
/-
# The protocol of the launch

Each device `c` is sent to by `σ⁻¹ c` and sends to `σ c`. It first signals the barrier semaphore of `σ⁻¹ c` — "my result
buffer may be written" — and waits for the one unit that `σ c` sends it. Then it copies its four chunks into the result
buffer of `σ c`, each copy counted on a semaphore of its own at either end, and at last waits for its own four copies to
have left and for the four copies into its own result buffer to have landed.

Ghost state of the rounds library: nine cells on a device (the barrier, four send, four receive semaphores), each with one
round and in it one duty. The payload of a barrier cell is the result buffer the waiting device may write (the one of
`σ c`); of a receive cell, the chunk of the result buffer holding the sender's chunk; of a send cell, the chunk of the
sending buffer, given back. This file states cells, schedule, debts and levels.
-/
module

public import proofs.«01_k».proof.Proof.Chunks

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The protocol's own ghost state, and with it the staging pipeline's. -/
abbrev UC : Type := URounds (GSem nD τ sig) Unit
abbrev UU : Type := UR sig nD τ × UC

local notation "𝕄" => MT nD τ sig Unit (Elt F) ℕ UU ℕ

abbrev EP : Emb (UR sig nD τ) (MT nD τ sig Unit (Elt F) ℕ UU ℕ) := embL
abbrev ER : Emb UC (MT nD τ sig Unit (Elt F) ℕ UU ℕ) := embR

/-! ## The cells -/

/-- The runtime's barrier semaphore; copy `k`'s semaphore at the sending end; at the receiving end. -/
abbrev barS : Sem sig := (SemArray.scalar (sig.barrier 0 rfl) : Sems sig S_).sem
theorem inb1 (k : Fin 4) : ∀ a, (![k.val] : Fin 1 → Nat) a + S1.size a ≤ S4.size a := by revert k; decide
abbrev sendS (k : Fin 4) : DmaSem sig := ((cc0_scratch1.slice (Rect.unit (s := S4) ![k.val] S1.size (inb1 k))).squeeze S_ squeezes_S1_S_).sem
abbrev recvS (k : Fin 4) : DmaSem sig := ((cc0_scratch2.slice (Rect.unit (s := S4) ![k.val] S1.size (inb1 k))).squeeze S_ squeezes_S1_S_).sem

abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))

/-- What a semaphore is for. -/
inductive Role where
  | bar
  | send (k : Fin 4)
  | recv (k : Fin 4)
  | stage
deriving DecidableEq

/-- The semaphores before the kernel's own stage the arguments and the result; then four send, then four receive. -/
def role : SemLoc sig → Role
  | .reg _ => .bar
  | .dma q =>
    if q.val < 3 then .stage
    else if h : q.val - 3 < 4 then .send ⟨q.val - 3, h⟩
    else if h : q.val - 7 < 4 then .recv ⟨q.val - 7, h⟩
    else .stage

theorem role_bar : role (.reg barS) = .bar := rfl
theorem role_send (k : Fin 4) : role (.dma (sendS k)) = .send k := by revert k; decide
theorem role_recv (k : Fin 4) : role (.dma (recvS k)) = .recv k := by revert k; decide

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The chunks of the buffers on a device -/

/-- Device `c` owns chunk `k` of its sending buffer, -/
def sndPts (c : Dev nD) (k : Fin 4) (f : Buf (Elt F) ((c : Thread nD τ).loc cc0_scratch0)) : sProp 𝕄 :=
  (sndM k).view.loc (c : Thread nD τ) ↦[(sndM k).view.set]{fullShare} f
/-- of its result buffer. -/
def outPts (c : Dev nD) (k : Fin 4) (f : Buf (Elt F) ((c : Thread nD τ).loc cc0_stg2_0)) : sProp 𝕄 :=
  (dstM k).view.loc (c : Thread nD τ) ↦[(dstM k).view.set]{fullShare} f

omit [FloatOps F] in
instance sndPts_storable (c : Dev nD) (k : Fin 4) (f) : BI.Storable (upEmb : UEmb _ 𝕄) (sndPts (F := F) c k f) := by unfold sndPts; infer_instance
omit [FloatOps F] in
instance outPts_storable (c : Dev nD) (k : Fin 4) (f) : BI.Storable (upEmb : UEmb _ 𝕄) (outPts (F := F) c k f) := by unfold outPts; infer_instance

omit [FloatOps F] in
/-- The sending buffer is its four chunks, -/
theorem snd_split (c : Dev nD) (f : Buf (Elt F) ((c : Thread nD τ).loc cc0_scratch0)) :
    (((c : Thread nD τ).loc cc0_scratch0) ↦{fullShare} f : sProp 𝕄) = bigSep Finset.univ fun k : Fin 4 => sndPts c k f := by
  show (((c : Thread nD τ).loc cc0_scratch0) ↦[Finset.univ]{fullShare} f : sProp 𝕄) = _
  have h := pointsTo_biUnion (Val := Elt F) (Ix := Unit) (Name := ℕ) (U := UU) (Lvl := ℕ) (q := fullShare) (f := f) (ℓ := (c : Thread nD τ).loc cc0_scratch0) Finset.univ sndSet snd_disjoint
  rw [snd_cover] at h; exact h
omit [FloatOps F] in
/-- the result's buffer too; -/
theorem out_split (c : Dev nD) (f : Buf (Elt F) ((c : Thread nD τ).loc cc0_stg2_0)) :
    (((c : Thread nD τ).loc cc0_stg2_0) ↦{fullShare} f : sProp 𝕄) = bigSep Finset.univ fun k : Fin 4 => outPts c k f := by
  show (((c : Thread nD τ).loc cc0_stg2_0) ↦[Finset.univ]{fullShare} f : sProp 𝕄) = _
  have h := pointsTo_biUnion (Val := Elt F) (Ix := Unit) (Name := ℕ) (U := UU) (Lvl := ℕ) (q := fullShare) (f := f) (ℓ := (c : Thread nD τ).loc cc0_stg2_0) Finset.univ dstSet dst_disjoint
  rw [dst_cover] at h; exact h
omit [FloatOps F] in
/-- four chunks at different contents make the sending buffer at some contents. -/
theorem snd_join (c : Dev nD) :
    (bigSep Finset.univ fun k : Fin 4 => iprop(∃ f, sndPts c k f) : sProp 𝕄) ⊢ iprop(∃ f : Buf (Elt F) ((c : Thread nD τ).loc cc0_scratch0), ((c : Thread nD τ).loc cc0_scratch0) ↦{fullShare} f) := by
  rw [bigSep_fin4]
  iintro ⟨⟨%f0, H0⟩, ⟨%f1, H1⟩, ⟨%f2, H2⟩, ⟨%f3, H3⟩⟩
  ihave H := (show iprop(sndPts c 0 f0 ∗ sndPts c 1 f1 ∗ sndPts c 2 f2 ∗ sndPts c 3 f3)
      ⊢ (bigSep Finset.univ fun k : Fin 4 => ((c : Thread nD τ).loc cc0_scratch0 ↦[sndSet k]{fullShare} (![f0, f1, f2, f3] : Fin 4 → _) k) : sProp 𝕄)
      from by rw [bigSep_fin4]; exact BI.Entails.refl _) $$ [H0 H1 H2 H3]
  · isplitl [H0]; · iexact H0
    isplitl [H1]; · iexact H1
    isplitl [H2]; · iexact H2
    iexact H3
  ihave H' := (pointsTo_biUnion_join (Val := Elt F) (Ix := Unit) (Name := ℕ) (U := UU) (Lvl := ℕ) (q := fullShare)
    (ℓ := (c : Thread nD τ).loc cc0_scratch0) Finset.univ sndSet (![f0, f1, f2, f3] : Fin 4 → _) f0 snd_disjoint) $$ H
  icases H' with ⟨%g, -, H⟩
  iexists g
  rw [snd_cover]; iexact H

/-! ## The launch's memory -/

variable (σ : Equiv.Perm (Dev nD))
variable (m : (ℓ : Loc nD τ sig) → Buf (Elt F) ℓ) (ρ : Dev nD → PrngReg)

/-- The memory at launch: the contents `m`, every semaphore counter zero, the generator registers `ρ`. -/
def s₀ : MemSt nD τ sig (Elt F) := ⟨m, fun _ => 0, ρ⟩

/-- Device `c`'s block of `x` and its table, as staged. -/
def xstg (c : Dev nD) : (cc0_stg0_0 : Ref sig .tc).ty.Contents (Elt F) :=
  (win0_0.blk (0 : Fin 1)).view.read (Elt F) ((s₀ m ρ).mem ((c : Thread nD τ).loc main_arg0))
def tstg (c : Dev nD) : (cc0_stg1_0 : Ref sig .tc).ty.Contents (Elt F) :=
  (win0_1.blk (0 : Fin 1)).view.read (Elt F) ((s₀ m ρ).mem ((c : Thread nD τ).loc main_arg1))

/-- What the proof asks of the launch's memory: every device's table is the permutation `σ`. -/
def AllTables : Prop := ∀ c : Dev nD, IsTable σ (m ((c : Thread nD τ).loc main_arg1))

/-! ## The schedule -/

/-- What the signal of `σ c` hands `c`: the result buffer of `σ c`, chunk by chunk. -/
def barPay (c : Dev nD) : sProp 𝕄 := iprop(∃ f, bigSep Finset.univ fun k : Fin 4 => outPts (σ c) k f)
/-- What copy `k` leaves at its two ends: the source's chunk, given back; the target's chunk, holding the sender's. -/
def sendPay (c : Dev nD) (k : Fin 4) : sProp 𝕄 := iprop(∃ f, sndPts c k f)
def recvPay (c : Dev nD) (k : Fin 4) : sProp 𝕄 := outPts c k (xstg m ρ (σ.symm c))

/-- A cell's payload by what its semaphore is for. -/
def payOf (c : Dev nD) : Role → sProp 𝕄
  | .bar => barPay σ c
  | .send k => sendPay c k
  | .recv k => recvPay σ m ρ c k
  | .stage => iprop(emp)

omit [FloatOps F] in
instance payOf_storable (c : Dev nD) (r : Role) : BI.Storable (upEmb : UEmb _ 𝕄) (payOf σ m ρ c r) := by
  cases r <;> unfold payOf <;> first | (unfold barPay; infer_instance) | (unfold sendPay; infer_instance) | (unfold recvPay; infer_instance) | infer_instance

/-- One round; in it every cell of a core has one duty: one unit at a barrier, a chunk's bytes at a copy's end. -/
def rd : Rounds.Schedule (GSem nD τ sig) Unit 𝕄 where
  duties g r := if r = 0 ∧ g.1.2 = .tc ∧ role g.2 ≠ .stage then {()} else ∅
  unitless _ := False
  amount g _ _ := if role g.2 = .bar then 1 else N
  payload g _ _ := payOf σ m ρ g.1.1 (role g.2)
  amount_pos g _ _ _ := by
    by_cases h : role g.2 = .bar
    · rw [if_pos h]; exact Nat.one_pos
    · rw [if_neg h]; exact N_pos

omit [FloatOps F] in
instance rd_payload_storable (g : GSem nD τ sig) (r : ℕ) (d : Unit) :
    BI.Storable (upEmb : UEmb _ 𝕄) ((rd (F := F) σ m ρ).payload g r d) := payOf_storable σ m ρ g.1.1 (role g.2)

section Sched
variable (c : Dev nD) (k : Fin 4)

omit [FloatOps F] in
/-- A cell whose semaphore is for something has its one duty, -/
theorem duties_of (sm : SemLoc sig) (h : role sm ≠ .stage) : (rd (F := F) σ m ρ).duties ((c : Thread nD τ), sm) 0 = {()} := by
  dsimp only [rd]; exact if_pos ⟨rfl, rfl, h⟩
omit [FloatOps F] in
/-- and none after round 0. -/
theorem duties_later (g : GSem nD τ sig) : ∀ r, 1 ≤ r → (rd (F := F) σ m ρ).duties g r = ∅ :=
  fun r hr => by dsimp only [rd]; exact if_neg fun h => by omega

theorem bar_ne : role (.reg barS) ≠ .stage := by decide
theorem send_ne : role (.dma (sendS k)) ≠ .stage := by rw [role_send]; exact fun h => by cases h
theorem recv_ne : role (.dma (recvS k)) ≠ .stage := by rw [role_recv]; exact fun h => by cases h
theorem send_ne_bar : role (.dma (sendS k)) ≠ .bar := by rw [role_send]; exact fun h => by cases h
theorem recv_ne_bar : role (.dma (recvS k)) ≠ .bar := by rw [role_recv]; exact fun h => by cases h

omit [FloatOps F] in
theorem amount_bar : (rd (F := F) σ m ρ).amount (barCell c) 0 () = 1 := by dsimp only [rd]; exact if_pos rfl
omit [FloatOps F] in
theorem amount_send : (rd (F := F) σ m ρ).amount (sendCell c k) 0 () = N := by dsimp only [rd]; exact if_neg (send_ne_bar k)
omit [FloatOps F] in
theorem amount_recv : (rd (F := F) σ m ρ).amount (recvCell c k) 0 () = N := by dsimp only [rd]; exact if_neg (recv_ne_bar k)

omit [FloatOps F] in
theorem expect_of (sm : SemLoc sig) (h : role sm ≠ .stage) :
    (rd (F := F) σ m ρ).expect ((c : Thread nD τ), sm) 0 = (rd (F := F) σ m ρ).amount ((c : Thread nD τ), sm) 0 () := by
  unfold Schedule.expect Schedule.amountOf; rw [duties_of σ m ρ c sm h, Finset.sum_singleton]

omit [FloatOps F] in
theorem payload_bar : (rd (F := F) σ m ρ).payload (barCell c) 0 () = barPay σ c := rfl
omit [FloatOps F] in
theorem payload_send : (rd (F := F) σ m ρ).payload (sendCell c k) 0 () = sendPay c k := by dsimp only [rd]; rw [role_send]; rfl
omit [FloatOps F] in
theorem payload_recv : (rd (F := F) σ m ρ).payload (recvCell c k) 0 () = recvPay σ m ρ c k := by dsimp only [rd]; rw [role_recv]; rfl

omit [FloatOps F] in
/-- What is left of a cell's round before any duty is taken is its one payload. -/
theorem rest_of (sm : SemLoc sig) (h : role sm ≠ .stage) :
    bigSep ((rd (F := F) σ m ρ).duties ((c : Thread nD τ), sm) 0 \ ∅) (fun d => (rd (F := F) σ m ρ).payload ((c : Thread nD τ), sm) 0 d)
      = (rd (F := F) σ m ρ).payload ((c : Thread nD τ), sm) 0 () := by
  rw [Finset.sdiff_empty, duties_of σ m ρ c sm h, bigSep_singleton]

end Sched

/-! ## What a device owes at launch; the levels -/

/-- The receive credits device `c` still owes once it has started `n` copies: those of the copies from `n` on. -/
def due (c : Dev nD) (n : ℕ) : CellTallies nD τ sig Unit :=
  ∑ k ∈ (Finset.univ : Finset (Fin 4)).filter (fun k => n ≤ k.val), tallyAt (recvCell (σ c) k) () N
/-- At launch it owes all four, and a unit to the barrier of the device that sends to it. -/
def O₀ (c : Dev nD) : CellTallies nD τ sig Unit := due σ c 0 + tallyAt (barCell (σ.symm c)) () 1

theorem due_step (c : Dev nD) (k : Fin 4) : due σ c k.val = due σ c (k.val + 1) + tallyAt (recvCell (σ c) k) () N := by
  unfold due
  have h : (Finset.univ : Finset (Fin 4)).filter (fun j => k.val ≤ j.val) = insert k (Finset.univ.filter fun j => k.val + 1 ≤ j.val) := by
    ext j; simp only [Finset.mem_filter, Finset.mem_univ, true_and, Finset.mem_insert, Fin.ext_iff]; omega
  rw [h, Finset.sum_insert (by simp), add_comm]
theorem due_four (c : Dev nD) : due σ c 4 = 0 := by
  unfold due; rw [Finset.sum_filter]; exact Finset.sum_eq_zero fun k _ => if_neg (by have := k.isLt; omega)

/-- A debt among those is to a receive cell of `σ c`. -/
theorem due_pos {c : Dev nD} {n : ℕ} {g : GSem nD τ sig} {u : Unit} (h : 0 < due σ c n g u) : ∃ k, g = recvCell (σ c) k := by
  unfold due at h
  rw [Finset.sum_apply, Finsupp.finset_sum_apply] at h
  obtain ⟨k, -, hk⟩ := Finset.exists_ne_zero_of_sum_ne_zero (Nat.pos_iff_ne_zero.mp h)
  refine ⟨k, ?_⟩
  by_contra hn
  rw [tallyAt_apply, if_neg (fun h' => hn h'.1)] at hk
  exact hk rfl
theorem O₀_pos {c : Dev nD} {g : GSem nD τ sig} {u : Unit} (h : 0 < O₀ σ c g u) :
    (∃ k, g = recvCell (σ c) k) ∨ g = barCell (σ.symm c) := by
  unfold O₀ at h
  rw [Pi.add_apply, Finsupp.add_apply] at h
  by_cases hb : g = barCell (σ.symm c)
  · exact .inr hb
  · rw [tallyAt_apply, if_neg (fun h' => hb h'.1), Nat.add_zero] at h
    exact .inl (due_pos σ h)

def L (g : GSem nD τ sig) : Finset Unit := if g.1.2 = .tc then {()} else ∅
/-- Barrier cells are at level 1, receive cells at 2, the others (staging and send cells) at 0: a device waits for a cell only
    while what it owes lies above it. -/
def lv (g : GSem nD τ sig) (_ : Unit) : ℕ := match role g.2 with
  | .bar => 1
  | .recv _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 4) (u : Unit) : lv (recvCell c k) u = 2 := by unfold lv; rw [role_recv]
theorem lv_bar (c : Dev nD) (u : Unit) : lv (barCell c) u = 1 := rfl

omit [FloatOps F] in
/-- A staging semaphore may be waited for at launch and when nothing is owed any more. -/
theorem mayWait_stage (c : Dev nD) (q : DmaSem sig) (hq : role (.dma q) = .stage) (O : CellTallies nD τ sig Unit) (hO : O = O₀ σ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos σ hg with ⟨k, rfl⟩ | rfl <;> exact Finset.mem_singleton_self _)
      (fun p hp => by rw [Finset.mem_singleton.mp hp]; unfold lv; rw [hq])
      (fun g u hg => by
        rcases O₀_pos σ hg with ⟨k, rfl⟩ | rfl
        · rw [lv_recv]; decide
        · rw [lv_bar]; decide)
  · rw [MayWait_zero]; iintro -; iempintro

omit [FloatOps F] in
/-- The barrier may be waited for while the four receive credits are owed. -/
theorem mayWait_bar (c : Dev nD) (n : ℕ) :
    (levAts L lv : sProp 𝕄) ⊢ MayWait (c : Thread nD τ) (.reg barS) () (due σ c n) :=
  MayOwe.of_cut (L := L) (lev := lv) 1 (fun p hp => by rw [Finset.mem_singleton.mp hp, L_tc]; exact Finset.mem_singleton_self _)
    (fun g u hg => by obtain ⟨k, rfl⟩ := due_pos σ hg; exact Finset.mem_singleton_self _)
    (fun p hp => by rw [Finset.mem_singleton.mp hp]; exact Nat.le_refl _)
    (fun g u hg => by obtain ⟨k, rfl⟩ := due_pos σ hg; rw [lv_recv]; decide)

end Cert.Permute

end
-- ==== Proof.Steps.lean ====
/-
# The steps of a device's run

One lemma for each kind of step the kernel takes — signalling the barrier, waiting for it, filling a chunk of the sending
buffer, starting a copy, waiting for a copy to have left, waiting for one to have landed —, each for every device and
every chunk. `Body.lean` strings them together in program order.
-/
module

public import proofs.«01_k».proof.Proof.Protocol

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (σ : Equiv.Perm (Dev nD))
variable (m : (ℓ : Loc nD τ sig) → Buf (Elt F) ℓ) (ρ : Dev nD → PrngReg)

/-! ## The nine cells, and the records of all devices' -/

/-- The kernel's own (scoped) semaphores — four send, four receive —, and with the barrier all nine of the protocol. -/
abbrev osem : Fin 4 ⊕ Fin 4 → SemLoc sig
  | .inl k => .dma (sendS k)
  | .inr k => .dma (recvS k)
abbrev csem : Unit ⊕ (Fin 4 ⊕ Fin 4) → SemLoc sig
  | .inl _ => .reg barS
  | .inr j => osem j
abbrev CellIx : Type := Dev nD × (Unit ⊕ (Fin 4 ⊕ Fin 4))
abbrev kcell (ck : CellIx) : GSem nD τ sig := ((ck.1 : Thread nD τ), csem ck.2)

/-- Every cell's invariant, under the names `K`, and that it has reached round 0: known to every device. -/
def records (K : CellIx → ℕ) : sProp 𝕄 :=
  iprop((bigSep Finset.univ fun ck : CellIx => cellInv ER (rd σ m ρ) (K ck) (kcell ck))
    ∗ bigSep Finset.univ fun ck : CellIx => reached ER (kcell ck) 0)

instance records_persistent (K : CellIx → ℕ) : BI.Persistent (records σ m ρ K) := by unfold records; infer_instance

omit [FloatOps F] in
/-- One cell's out of them. -/
theorem record_at (K : CellIx → ℕ) (ck : CellIx) :
    records σ m ρ K ⊢ iprop(cellInv ER (rd σ m ρ) (K ck) (kcell ck) ∗ reached ER (kcell ck) 0) := by
  unfold records
  exact BIClass.sep_mono (bigSep_elim (Finset.mem_univ ck)) (bigSep_elim (Finset.mem_univ ck))

/-! ## The steps -/

section Steps

variable (K : CellIx → ℕ) (c : Dev nD) {α : Type}

/-- The run of the program `p` on device `c`. -/
abbrev runs (p : Prog (TpuEff nD τ sig (Elt F) Λ₀ .tc) α) (Q : α → sProp 𝕄) : sProp 𝕄 :=
  wp frame (wpE (defs₀ (F := F)) Variants.none (c : Thread nD τ) none) Set.univ p Q

/-- What device `c` owes, whatever it has waited for so far. -/
def owing (c : Dev nD) (O : CellTallies nD τ sig Unit) : sProp 𝕄 := iprop(∃ W, owes (c : Thread nD τ) O W)

/-- Chunk `k` of the sending buffer is filled: it holds that chunk of the device's block. -/
def filled (c : Dev nD) (k : Fin 4) : sProp 𝕄 :=
  iprop(∃ f : Buf (Elt F) ((c : Thread nD τ).loc cc0_scratch0), ⌜(sndM k).view.read (Elt F) f = (dstM k).view.read (Elt F) (xstg m ρ c)⌝ ∗ sndPts c k f)

/-- The signal to the device that sends to `c`: with it goes `c`'s result buffer, chunk by chunk. -/
theorem signal_step (n : Dev nD) (hn : n = σ.symm c) {Q : α → sProp 𝕄} {k : PUnit → Prog (TpuEff nD τ sig (Elt F) Λ₀ .tc) α} (f) :
    iprop(records σ m ρ K ∗ owing c (O₀ σ c) ∗ dutyTok ER (barCell (σ.symm c)) 0 () ∗ (bigSep Finset.univ fun k : Fin 4 => outPts c k f))
      ⊢ iprop((owing c (due σ c 0) -∗ runs c (k ⟨⟩) Q) -∗ runs c (.op (.semSignal (Dev.tc n) barS (1#32 : BitVec 32).toInt) k) Q) := by
  subst hn
  rw [show (1#32 : BitVec 32).toInt = ((1#32 : BitVec 32).toNat : Int) from rfl]
  unfold owing
  iintro ⟨#HK, ⟨%W, HO⟩, Ht, Hout⟩ Hk
  ihave H := (record_at σ m ρ K (σ.symm c, .inl ())) $$ HK
  icases H with ⟨#HI, #HR⟩
  iapply (Rounds.wp_signal Variants.none ER (rd σ m ρ) (c : Thread nD τ) none (dst := (σ.symm c : Thread nD τ)) (κ := K (σ.symm c, .inl ()))
      (d := ()) (by rw [duties_of σ m ρ _ _ bar_ne]; exact Finset.mem_singleton_self _)
      ((amount_bar σ m ρ (σ.symm c)).trans (by decide)) () (due σ c 0) rfl) $$ [HO Ht Hout]
  · isplitr; · iexact HI
    isplitl [HO]; · iexact HO
    isplitl [Ht]; · iexact Ht
    isplitl [Hout]
    · rw [payload_bar]; unfold barPay; rw [Equiv.apply_symm_apply]
      iexists f; iexact Hout
    · iexact HR
  iintro HO
  iapply Hk
  iexists W; iexact HO

/-- The wait for the barrier: the result buffer of the device `c` sends to comes with it, and the barrier's counter is
    `c`'s again, at zero. -/
theorem barrier_step {Q : α → sProp 𝕄} {k : PUnit → Prog (TpuEff nD τ sig (Elt F) Λ₀ .tc) α} :
    iprop(records σ m ρ K ∗ levAts L lv ∗ owing c (due σ c 0) ∗ cred (tallyAt (barCell c) () 1) ∗ atPos ER (barCell c) 0 ∅ 0)
      ⊢ iprop(((owing c (due σ c 0) ∗ semVal (barCell c) 0 ∗ barPay σ c) -∗ runs c (k ⟨⟩) Q)
          -∗ runs c (.op (.semWait barS (1#32 : BitVec 32).toInt) k) Q) := by
  rw [show (1#32 : BitVec 32).toInt = ((1#32 : BitVec 32).toNat : Int) from rfl]
  unfold owing
  iintro ⟨#HK, #Hlev, ⟨%W, HO⟩, Hc, Hat⟩ Hk
  ihave H := (record_at σ m ρ K (c, .inl ())) $$ HK
  icases H with ⟨#HI, -⟩
  iapply (Rounds.wp_wait_rest_token Variants.none ER (rd σ m ρ) (c : Thread nD τ) none (κ := K (c, .inl ()))
      (wpE_semWait_eq Variants.none (c : Thread nD τ) none Set.univ) (Set.mem_univ _) () (O := due σ c 0) (W := W) (R := 0) (m := 0) (T := ∅)
      (by rw [expect_of σ m ρ c _ bar_ne, amount_bar]; decide)) $$ [Hc HO Hat]
  · isplitr; · iexact HI
    isplitl [Hc]; · iexact Hc
    isplitl [HO]; · iexact HO
    isplitr; · iapply (mayWait_bar σ c 0); iexact Hlev
    iexact Hat
  iintro ⟨HO, Hat, -, Hpay⟩
  ihave Hp := (Entails.of_eq ((rest_of σ m ρ c _ bar_ne).trans (payload_bar σ m ρ c))) $$ Hpay
  imod (Rounds.cell_close ER (rd σ m ρ) (Set.mem_univ (K (c, .inl ()))) (fun h => h) (R := 0 + 1) (duties_later σ m ρ (barCell c))) $$ [Hat] with Hz
  · isplitr; · iexact HI
    iexact Hat
  iapply Hk
  isplitl [HO]; · iexists _; iexact HO
  isplitl [Hz] <;> iassumption

/-- Filling chunk `k`: load it from the staged block, load the buffer's chunk (unused), store. -/
theorem fill_step (j : Fin 4) (f)
    {hl : (xM : Memref sig .tc .vmem S1x512x512 .bf16).view.LoadsAt (rect3 j).toLoadRect} {hl' : (bM : Memref sig .tc .vmem S512x512 .bf16).view.LoadsAt (rect2 j).toLoadRect}
    {hx : ((bM : Memref sig .tc .vmem S512x512 .bf16).access (rect2 j)).Stores Finset.univ}
    {hm : (Finset.univ : Finset (rect2 j).shape.Idx) = Finset.univ ∨ ∀ a, (rect2 j).stride a = 1}
    {Q : α → sProp 𝕄} {k : PUnit → Prog (TpuEff nD τ sig (Elt F) Λ₀ .tc) α} :
    iprop((((c : Thread nD τ).loc cc0_stg0_0) ↦{fullShare} xstg m ρ c) ∗ sndPts c j f)
      ⊢ iprop((((((c : Thread nD τ).loc cc0_stg0_0) ↦{fullShare} xstg m ρ c) ∗ filled m ρ c j) -∗ runs c (k ⟨⟩) Q)
          -∗ runs c (.op (.load xM (rect3 j).toLoadRect hl) fun v => .op (.load bM (rect2 j).toLoadRect hl') fun _ =>
              .op (.store bM (rect2 j) (k0_pay1 v) Finset.univ hx hm) k) Q) := by
  unfold sndPts filled
  iintro ⟨Hx, Hs⟩ Hk
  iapply (wp_load Variants.none (c : Thread nD τ) none Set.univ (m := xM) (Finset.subset_univ _)) $$ Hx; iintro Hx
  have hS : (bM : Memref sig .tc .vmem S512x512 .bf16).view.setOn (rect2 j).toLoadRect.set ⊆ (sndM j).view.set := by
    rw [show (sndM j).view.set = _ from View.set_slice _ _]; exact subset_rfl
  iapply (wp_load Variants.none (c : Thread nD τ) none Set.univ (m := bM) hS) $$ Hs; iintro Hs
  iapply (wp_store Variants.none (c : Thread nD τ) none Set.univ (m := bM) (r := rect2 j) (Mk := Finset.univ) (S := (sndM j).view.set) (subset_rfl)) $$ Hs; iintro Hs
  iapply Hk
  isplitl [Hx]; · iexact Hx
  iexists _
  isplitr; rotate_left
  · unfold sndPts; iexact Hs
  · ipureintro; exact stored_read j f (xstg m ρ c)

/-- The rule of a remote copy at copy `j` towards the device `c` sends to, the two invariants and marks still apart. -/
theorem send_rule (j : Fin 4) (n : Dev nD) (hn : n = σ c) {O O' : CellTallies nD τ sig Unit} (hO : O = O' + tallyAt (recvCell (σ c) j) () N)
    {hsc : ((dstM j : Memref sig .tc .vmem S128x512 .bf16) : Memref sig (Dev.tc n : Thread nD τ).2.kind .vmem S128x512 .bf16).view.ref.isScScratch = false}
    {hsrc : (sndM j : Memref sig .tc .vmem S128x512 .bf16).view.WordExact} {hdst : (dstM j : Memref sig .tc .vmem S128x512 .bf16).view.WordExact}
    {hsem : DmaTarget.Typed .vmem (.dma (recvS j)) (.remote (Dev.tc n : Thread nD τ) (dstM j : Memref sig .tc .vmem S128x512 .bf16) (.dma (sendS j)) hsc)}
    {Q : α → sProp 𝕄} {k : PUnit → Prog (TpuEff nD τ sig (Elt F) Λ₀ .tc) α} (fn) (fs) (W : Waits sig Unit)
    (hfs : (sndM j).view.read (Elt F) fs = (dstM j).view.read (Elt F) (xstg m ρ c)) :
    iprop(cellInv ER (rd σ m ρ) (K (c, .inr (.inl j))) (sendCell c j) ∗ cellInv ER (rd σ m ρ) (K (σ c, .inr (.inr j))) (recvCell (σ c) j)
        ∗ sndPts c j fs ∗ outPts (σ c) j fn ∗ owes (c : Thread nD τ) O W
        ∗ dutyTok ER (sendCell c j) 0 () ∗ reached ER (sendCell c j) 0
        ∗ dutyTok ER (recvCell (σ c) j) 0 () ∗ reached ER (recvCell (σ c) j) 0)
      ⊢ iprop(((cred (tallyAt (sendCell c j) () N) ∗ owes (c : Thread nD τ) O' W) -∗ runs c (k ⟨⟩) Q)
          -∗ runs c (.op (.enqueueDma (sndM j) (.remote (Dev.tc n : Thread nD τ) (dstM j) (.dma (sendS j)) hsc) (.dma (recvS j)) hsrc hdst hsem) k) Q) := by
  subst hn
  unfold sndPts outPts
  have hp1 : ((sndM j).view.loc (c : Thread nD τ) ↦[(sndM j).view.set]{fullShare} fs : sProp 𝕄) ⊢ (rd σ m ρ).payload (sendCell c j) 0 () := by
    rw [payload_send]; unfold sendPay sndPts; iintro H; iexists fs; iexact H
  have hp2 : ((dstM j).view.loc (σ c : Thread nD τ) ↦[(dstM j).view.set]{fullShare} ((dstM j).view.write (Elt F) fn ((sndM j).view.read (Elt F) fs) Finset.univ) : sProp 𝕄)
      ⊢ (rd σ m ρ).payload (recvCell (σ c) j) 0 () := by
    rw [payload_recv]; unfold recvPay outPts; rw [Equiv.symm_apply_apply]
    exact Entails.of_eq (pointsTo_congr (landed_eq j fn fs (xstg m ρ c) hfs))
  exact Rounds.wp_send_pointsTo Variants.none ER (rd σ m ρ) (c : Thread nD τ) none (κ₁ := K (c, .inr (.inl j))) (κ₂ := K (σ c, .inr (.inr j)))
    (r₁ := 0) (r₂ := 0) (d₁ := ()) (d₂ := ()) (src := sndM j) (dst := dstM j) (fs := fs) (fd := fn) (c' := (σ c : Thread nD τ)) (sS := .dma (sendS j)) (sem := .dma (recvS j))
    (by rw [duties_of σ m ρ _ _ (send_ne j)]; exact Finset.mem_singleton_self _) (by rw [duties_of σ m ρ _ _ (recv_ne j)]; exact Finset.mem_singleton_self _)
    () () N (dst_credit j) (amount_send σ m ρ c j) (amount_recv σ m ρ (σ c) j) O' hO (W := W) hp1 hp2

/-- The start of copy `j` towards the device `c` sends to: it takes the filled chunk and that device's result chunk, and
    leaves the credit for the chunk to be given back. -/
theorem send_step (j : Fin 4) (n : Dev nD) (hn : n = σ c) {O O' : CellTallies nD τ sig Unit} (hO : O = O' + tallyAt (recvCell (σ c) j) () N)
    {hsc : ((dstM j : Memref sig .tc .vmem S128x512 .bf16) : Memref sig (Dev.tc n : Thread nD τ).2.kind .vmem S128x512 .bf16).view.ref.isScScratch = false}
    {hsrc : (sndM j : Memref sig .tc .vmem S128x512 .bf16).view.WordExact} {hdst : (dstM j : Memref sig .tc .vmem S128x512 .bf16).view.WordExact}
    {hsem : DmaTarget.Typed .vmem (.dma (recvS j)) (.remote (Dev.tc n : Thread nD τ) (dstM j : Memref sig .tc .vmem S128x512 .bf16) (.dma (sendS j)) hsc)}
    {Q : α → sProp 𝕄} {k : PUnit → Prog (TpuEff nD τ sig (Elt F) Λ₀ .tc) α} (fn) :
    iprop(records σ m ρ K ∗ filled m ρ c j ∗ outPts (σ c) j fn ∗ owing c O
        ∗ dutyTok ER (sendCell c j) 0 () ∗ dutyTok ER (recvCell (σ c) j) 0 ())
      ⊢ iprop(((owing c O' ∗ cred (tallyAt (sendCell c j) () N)) -∗ runs c (k ⟨⟩) Q)
          -∗ runs c (.op (.enqueueDma (sndM j) (.remote (Dev.tc n : Thread nD τ) (dstM j) (.dma (sendS j)) hsc) (.dma (recvS j)) hsrc hdst hsem) k) Q) := by
  unfold owing filled
  iintro ⟨#HK, ⟨%fs, %hfs, Hs⟩, Hd, ⟨%W, HO⟩, HtS, HtR⟩ Hk
  ihave HS := (record_at σ m ρ K (c, .inr (.inl j))) $$ HK
  icases HS with ⟨#HIs, #HRs⟩
  ihave HR := (record_at σ m ρ K (σ c, .inr (.inr j))) $$ HK
  icases HR with ⟨#HIr, #HRr⟩
  iapply (send_rule σ m ρ K c j n hn hO fn fs W hfs) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact HRs
    isplitl [HtR]; · iexact HtR
    iexact HRr
  iintro ⟨Hc, HO⟩
  iapply Hk
  isplitl [HO]; · iexists W; iexact HO
  iexact Hc

/-- The wait at one of a copy's two ends, when nothing is owed any more: its payload, and its counter, at zero. -/
theorem wait_step (i : Fin 4 ⊕ Fin 4) (q : DmaSem sig) (hq : osem i = .dma q) (P : sProp 𝕄)
    (hP : (rd σ m ρ).payload ((c : Thread nD τ), osem i) 0 () = P)
    {sp sp' : Space} {s s' : Shape} {e e' : EltTy} {src : Memref sig .tc sp' s' e'} {dst : Memref sig .tc sp s e}
    (hcr : dst.view.dmaCredit = N) {hsrc : src.view.WordExact} {hdst : dst.view.WordExact}
    {Q : α → sProp 𝕄} {k : PUnit → Prog (TpuEff nD τ sig (Elt F) Λ₀ .tc) α} :
    iprop(records σ m ρ K ∗ owing c 0 ∗ cred (tallyAt ((c : Thread nD τ), osem i) () N) ∗ atPos ER ((c : Thread nD τ), osem i) 0 ∅ 0)
      ⊢ iprop(((owing c 0 ∗ semVal ((c : Thread nD τ), osem i) 0 ∗ P) -∗ runs c (k ⟨⟩) Q)
          -∗ runs c (.op (.waitDma2 q src dst hsrc hdst) k) Q) := by
  have hne : role (osem i) ≠ .stage := by rcases i with j | j; exacts [send_ne j, recv_ne j]
  have ham : (rd (F := F) σ m ρ).amount ((c : Thread nD τ), osem i) 0 () = N := by rcases i with j | j; exacts [amount_send σ m ρ c j, amount_recv σ m ρ c j]
  unfold owing
  iintro ⟨#HK, ⟨%W, HO⟩, Hc, Hat⟩ Hk
  ihave H := (record_at σ m ρ K (c, .inr i)) $$ HK
  icases H with ⟨#HI, -⟩
  iapply (Rounds.wp_wait_rest_token Variants.none ER (rd σ m ρ) (c : Thread nD τ) none (κ := K (c, .inr i)) (sm := osem i)
      (by rw [hq]; exact wpE_waitDma2_eq Variants.none (c : Thread nD τ) none Set.univ) (Set.mem_univ _) () (O := 0) (W := W) (R := 0) (m := 0) (T := ∅)
      (by rw [expect_of σ m ρ c _ hne, ham, Nat.zero_add, hcr])) $$ [Hc HO Hat]
  · isplitr; · iexact HI
    isplitl [Hc]; · rw [hcr]; iexact Hc
    isplitl [HO]; · iexact HO
    isplitr; · rw [MayWait_zero]; iempintro
    iexact Hat
  iintro ⟨HO, Hat, -, Hpay⟩
  ihave Hp := (Entails.of_eq ((rest_of σ m ρ c _ hne).trans hP)) $$ Hpay
  imod (Rounds.cell_close ER (rd σ m ρ) (Set.mem_univ (K (c, .inr i))) (fun h => h) (R := 0 + 1) (duties_later σ m ρ ((c : Thread nD τ), osem i))) $$ [Hat] with Hz
  · isplitr; · iexact HI
    iexact Hat
  iapply Hk
  isplitl [HO]; · iexists _; iexact HO
  isplitl [Hz] <;> iassumption

end Steps

end Cert.Permute

end
-- ==== Proof.Body.lean ====
/-
# A device's run of the kernel

The kernel's body, run once, at a device that stands for each of the four, under the assumption that every device's table
is the permutation `σ`. It ends with the result buffer holding the block of the device that sends to it, `σ⁻¹ c`.
-/
module

public import proofs.«01_k».proof.Proof.Steps

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (σ : Equiv.Perm (Dev nD))
variable (m : (ℓ : Loc nD τ sig) → Buf (Elt F) ℓ) (ρ : Dev nD → PrngReg)

/-! ## The pipeline's contract -/

theorem cfg0_N : cfg0.N = 1 := by decide
abbrev t₀ : Fin cfg0.N := ⟨0, by decide⟩
theorem fin_N (t : Fin cfg0.N) : t = t₀ := Fin.ext (by have h1 := cfg0_N; have h2 : t.val < cfg0.N := t.isLt; show t.val = 0; omega)

/-- The ghost state of device `c`'s run: the records of all cells, its positions at its own nine, the tokens of the nine
    duties it pays. -/
def ghost (K : CellIx → ℕ) (c : Dev nD) : sProp 𝕄 :=
  iprop(records σ m ρ K
    ∗ (atPos ER (barCell c) 0 ∅ 0 ∗ (bigSep Finset.univ fun k : Fin 4 => atPos ER (sendCell c k) 0 ∅ 0)
        ∗ (bigSep Finset.univ fun k : Fin 4 => atPos ER (recvCell c k) 0 ∅ 0))
    ∗ (dutyTok ER (barCell (σ.symm c)) 0 () ∗ (bigSep Finset.univ fun k : Fin 4 => dutyTok ER (sendCell c k) 0 ())
        ∗ (bigSep Finset.univ fun k : Fin 4 => dutyTok ER (recvCell (σ c) k) 0 ())))

/-- What it starts with: besides, the credits of the signal and the four copies it waits for, and the levels. -/
def start (c : Dev nD) : sProp 𝕄 :=
  iprop((∃ K, ghost σ m ρ K c) ∗ (cred (tallyAt (barCell c) () 1) ∗ (bigSep Finset.univ fun k : Fin 4 => cred (tallyAt (recvCell c k) () N))) ∗ levAts L lv)

/-- The sending buffer at some contents. -/
def bufAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start σ m ρ c ∗ bufAny c)
/-- What it ends with: the sending buffer, and its nine counters at zero. -/
def Φ₁ (c : Dev nD) : sProp 𝕄 :=
  iprop(bufAny (F := F) c ∗ semVal (barCell c) 0 ∗ (bigSep Finset.univ fun k : Fin 4 => semVal (sendCell c k) 0)
    ∗ (bigSep Finset.univ fun k : Fin 4 => semVal (recvCell c k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => xstg m ρ (σ.symm c)
  Φ t := match t with
    | ⟨0, _⟩ => Φ₀ σ m ρ c
    | ⟨_ + 1, _⟩ => Φ₁ (F := F) c
  q _ := fullShare
  owed t := match t with
    | ⟨0, _⟩ => O₀ σ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The words of the table, as the body loads them -/

/-- The place of one word, from its offset; the word loaded from there. -/
abbrev wordR (off : Fin S4.rank → ℕ) (h : ∀ a, off a + S1.size a ≤ S4.size a) : Rect S4 := Rect.unit (s := S4) off S1.size h
abbrev wordAt (c : Dev nD) (off : Fin S4.rank → ℕ) (h : ∀ a, off a + S1.size a ≤ S4.size a) : BitVec 32 :=
  ((tM : Memref sig .tc .smem S4 .i32).access (wordR off h)).read (Elt F) (tstg m ρ c)
    (Shape.Idx.first (s := S1) (numel1_S1.symm ▸ Nat.one_pos))

omit [FloatOps F] in
theorem wordAt_eq (hT : AllTables σ m) (c : Dev nD) (off) (h) (i : Fin 4) (hi : off = ![i.val]) :
    wordAt m ρ c off h = wordOf (σ i) := by
  subst hi
  rw [← hT c i]
  show m ((c : Thread nD τ).loc main_arg1) _ = m ((c : Thread nD τ).loc main_arg1) (at4 i)
  refine congrArg _ (funext fun a => Fin.ext ?_)
  fin_cases a
  fin_cases i <;> rfl

/-- The place of a device's own word. -/
theorem off_own (c : Dev nD) : k0_off1 c = ![c.val] := by revert c; decide

/-! ## The body -/

section Body

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body runs from, but for what it starts with: its debts, and the three staging buffers. -/
def bodyStaged (c : Dev nD) : sProp 𝕄 :=
  iprop((dats σ m ρ 0 c).owesAt () t₀.castSucc
    ∗ (∃ d, stg c cc0_stg0_0 ((dats σ m ρ 0 c).before (0 : Fin 3) t₀ d))
    ∗ (∃ d, stg c cc0_stg1_0 ((dats σ m ρ 0 c).before (1 : Fin 3) t₀ d))
    ∗ (∃ d, stg c cc0_stg2_0 ((dats σ m ρ 0 c).before (2 : Fin 3) t₀ d)))

/-- What it runs to. -/
def bodyPost (c : Dev nD) : sProp 𝕄 :=
  iprop(Φ₁ (F := F) c ∗ (dats σ m ρ 0 c).owesAt () t₀.succ ∗ stg c cc0_stg0_0 (xstg m ρ c) ∗ stg c cc0_stg1_0 (tstg m ρ c)
    ∗ stg c cc0_stg2_0 (xstg m ρ (σ.symm c)))

set_option maxHeartbeats 8000000 in
set_option maxRecDepth 8000 in
/-- The body, one step after another in program order. -/
theorem sound_body (hT : AllTables σ m) (c : Dev nD) (Kt : PUnit → sProp 𝕄) :
    iprop((Φ₀ σ m ρ c ∗ bodyStaged σ m ρ c) ∗ (bodyPost σ m ρ c -∗ Kt ⟨⟩))
      ⊢ runs c (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  have hw4 : wordAt m ρ c (k0_off1 c) (k0_off1_inb c) = wordOf (σ c) := wordAt_eq σ m ρ hT c _ _ c (off_own c)
  have hchk : k0_chk2 (wordAt m ρ c (k0_off1 c) (k0_off1_inb c)) := by rw [hw4]; exact chk2_word _
  have hsig : ∀ h0 h1 h2 h3 p, (⟨k0_dev1 c (wordAt m ρ c ![0] h0) (wordAt m ρ c ![1] h1) (wordAt m ρ c ![2] h2) (wordAt m ρ c ![3] h3), p⟩ : Dev nD) = σ.symm c :=
    fun h0 h1 h2 h3 p => Fin.ext (by
      show k0_dev1 c _ _ _ _ = _
      rw [wordAt_eq σ m ρ hT c _ h0 0 rfl, wordAt_eq σ m ρ hT c _ h1 1 rfl, wordAt_eq σ m ρ hT c _ h2 2 rfl, wordAt_eq σ m ρ hT c _ h3 3 rfl]
      exact search_perm σ c)
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, smemLoad, smemLoadElt, Prog.lift, Prog.bind_op, Prog.bind_ret, Prog.pure_eq_ret, Prog.bind_assoc]
  unfold runs
  simp only [wp_deviceId]
  unfold Φ₀ start ghost bufAny bodyStaged
  iintro ⟨⟨⟨⟨⟨%K, #HK, ⟨HatB, HatS, HatR⟩, HtB, HtS, HtR⟩, ⟨HcB, HcR⟩, #Hlev⟩, ⟨%f0, Hbuf⟩⟩, Ho, ⟨%d0, %g0, %hg0, Hx⟩, ⟨%d1, %g1, %hg1, Ht⟩, ⟨%d2, %g2, %hg2, Hout⟩⟩, Hk⟩
  have hx : g0 = xstg m ρ c := by rw [hg0]; unfold Dat.before; rw [if_pos (fetch_0 t₀)]; rfl
  subst hx
  have ht : g1 = tstg m ρ c := by rw [hg1]; unfold Dat.before; rw [if_pos (fetch_1 t₀)]; rfl
  subst ht
  unfold Dat.owesAt Pipeline.owesWithin
  icases Ho with ⟨%W, %hW, HO⟩
  rw [show (dats σ m ρ 0 c).owed t₀.castSucc = O₀ σ c from rfl]
  -- the five words of the table
  iapply (wp_load_rect Variants.none (c : Thread nD τ) none Set.univ (m := tM) (r := wordR (k0_off1 c) (k0_off1_inb c)) (Finset.subset_univ _)) $$ Ht; iintro Ht
  simp only [wp_assume_of _ _ _ _ (d := k0_chk2.dec _) hchk]
  iapply (wp_load_rect Variants.none (c : Thread nD τ) none Set.univ (m := tM) (r := wordR ![0] (inb1 0)) (Finset.subset_univ _)) $$ Ht; iintro Ht
  iapply (wp_load_rect Variants.none (c : Thread nD τ) none Set.univ (m := tM) (r := wordR ![1] (inb1 1)) (Finset.subset_univ _)) $$ Ht; iintro Ht
  iapply (wp_load_rect Variants.none (c : Thread nD τ) none Set.univ (m := tM) (r := wordR ![2] (inb1 2)) (Finset.subset_univ _)) $$ Ht; iintro Ht
  iapply (wp_load_rect Variants.none (c : Thread nD τ) none Set.univ (m := tM) (r := wordR ![3] (inb1 3)) (Finset.subset_univ _)) $$ Ht; iintro Ht
  simp only [wp_assume_of _ _ _ _ (d := k0_chk1.dec _ _ _ _ _) (k0_chk1_all _ _ _ _ _)]
  -- the signal: its own result buffer goes to the device that sends to it
  ihave HO := (show owes (c : Thread nD τ) (O₀ σ c) W ⊢ (owing c (O₀ σ c) : sProp 𝕄) from by unfold owing; iintro H; iexists W; iexact H) $$ HO
  ihave Hout := (Entails.of_eq (out_split c g2)) $$ Hout
  iapply (signal_step σ m ρ K c _ (hsig _ _ _ _ _) g2) $$ [HO HtB Hout]
  · isplitr; · iexact HK
    isplitl [HO]; · iexact HO
    isplitl [HtB]; · iexact HtB
    iexact Hout
  iintro HO
  -- the first chunk
  ihave Hbuf := (Entails.of_eq ((snd_split c f0).trans (bigSep_fin4 _))) $$ Hbuf
  icases Hbuf with ⟨Hb0, Hb1, Hb2, Hb3⟩
  iapply (fill_step m ρ c 0 f0) $$ [Hx Hb0]
  · isplitl [Hx] <;> iassumption
  iintro ⟨Hx, Hb0⟩
  -- the barrier: the result buffer of the device it sends to
  iapply (barrier_step σ m ρ K c) $$ [HO HcB HatB]
  · isplitr; · iexact HK
    isplitr; · iexact Hlev
    isplitl [HO]; · iexact HO
    isplitl [HcB] <;> iassumption
  unfold barPay
  iintro ⟨HO, HzB, ⟨%fn, Hn⟩⟩
  ihave Hn := (Entails.of_eq (bigSep_fin4 _)) $$ Hn
  icases Hn with ⟨Hn0, Hn1, Hn2, Hn3⟩
  ihave HtS := (Entails.of_eq (bigSep_fin4 _)) $$ HtS
  icases HtS with ⟨HtS0, HtS1, HtS2, HtS3⟩
  ihave HtR := (Entails.of_eq (bigSep_fin4 _)) $$ HtR
  icases HtR with ⟨HtR0, HtR1, HtR2, HtR3⟩
  -- copy 0; the next chunk
  iapply (send_step σ m ρ K c 0 _ (Fin.ext ((congrArg k0_dev2 hw4).trans (dev2_word _))) (due_step σ c 0) fn) $$ [Hb0 Hn0 HO HtS0 HtR0]
  · isplitr; · iexact HK
    isplitl [Hb0]; · iexact Hb0
    isplitl [Hn0]; · iexact Hn0
    isplitl [HO]; · iexact HO
    isplitl [HtS0] <;> iassumption
  iintro ⟨HO, HcS0⟩
  iapply (fill_step m ρ c 1 f0) $$ [Hx Hb1]
  · isplitl [Hx] <;> iassumption
  iintro ⟨Hx, Hb1⟩
  -- copy 1; the next chunk
  iapply (send_step σ m ρ K c 1 _ (Fin.ext ((congrArg k0_dev3 hw4).trans (dev3_word _))) (due_step σ c 1) fn) $$ [Hb1 Hn1 HO HtS1 HtR1]
  · isplitr; · iexact HK
    isplitl [Hb1]; · iexact Hb1
    isplitl [Hn1]; · iexact Hn1
    isplitl [HO]; · iexact HO
    isplitl [HtS1] <;> iassumption
  iintro ⟨HO, HcS1⟩
  iapply (fill_step m ρ c 2 f0) $$ [Hx Hb2]
  · isplitl [Hx] <;> iassumption
  iintro ⟨Hx, Hb2⟩
  -- copy 2; the next chunk
  iapply (send_step σ m ρ K c 2 _ (Fin.ext ((congrArg k0_dev4 hw4).trans (dev4_word _))) (due_step σ c 2) fn) $$ [Hb2 Hn2 HO HtS2 HtR2]
  · isplitr; · iexact HK
    isplitl [Hb2]; · iexact Hb2
    isplitl [Hn2]; · iexact Hn2
    isplitl [HO]; · iexact HO
    isplitl [HtS2] <;> iassumption
  iintro ⟨HO, HcS2⟩
  iapply (fill_step m ρ c 3 f0) $$ [Hx Hb3]
  · isplitl [Hx] <;> iassumption
  iintro ⟨Hx, Hb3⟩
  -- copy 3
  iapply (send_step σ m ρ K c 3 _ (Fin.ext ((congrArg k0_dev5 hw4).trans (dev5_word _))) (due_step σ c 3) fn) $$ [Hb3 Hn3 HO HtS3 HtR3]
  · isplitr; · iexact HK
    isplitl [Hb3]; · iexact Hb3
    isplitl [Hn3]; · iexact Hn3
    isplitl [HO]; · iexact HO
    isplitl [HtS3] <;> iassumption
  iintro ⟨HO, HcS3⟩
  ihave HO := (Entails.of_eq (congrArg (owing (F := F) c) (show due σ c ((3 : Fin 4).val + 1) = 0 from due_four σ c))) $$ HO
  ihave HatS := (Entails.of_eq (bigSep_fin4 _)) $$ HatS
  icases HatS with ⟨HatS0, HatS1, HatS2, HatS3⟩
  ihave HatR := (Entails.of_eq (bigSep_fin4 _)) $$ HatR
  icases HatR with ⟨HatR0, HatR1, HatR2, HatR3⟩
  ihave HcR := (Entails.of_eq (bigSep_fin4 _)) $$ HcR
  icases HcR with ⟨HcR0, HcR1, HcR2, HcR3⟩
  -- the four chunks given back
  iapply (wait_step σ m ρ K c (.inl 0) _ rfl _ (payload_send σ m ρ c 0) (snd_credit 0)) $$ [HO HcS0 HatS0]
  · isplitr; · iexact HK
    isplitl [HO]; · iexact HO
    isplitl [HcS0] <;> iassumption
  iintro ⟨HO, HzS0, Hs0⟩
  iapply (wait_step σ m ρ K c (.inl 1) _ rfl _ (payload_send σ m ρ c 1) (snd_credit 1)) $$ [HO HcS1 HatS1]
  · isplitr; · iexact HK
    isplitl [HO]; · iexact HO
    isplitl [HcS1] <;> iassumption
  iintro ⟨HO, HzS1, Hs1⟩
  iapply (wait_step σ m ρ K c (.inl 2) _ rfl _ (payload_send σ m ρ c 2) (snd_credit 2)) $$ [HO HcS2 HatS2]
  · isplitr; · iexact HK
    isplitl [HO]; · iexact HO
    isplitl [HcS2] <;> iassumption
  iintro ⟨HO, HzS2, Hs2⟩
  iapply (wait_step σ m ρ K c (.inl 3) _ rfl _ (payload_send σ m ρ c 3) (snd_credit 3)) $$ [HO HcS3 HatS3]
  · isplitr; · iexact HK
    isplitl [HO]; · iexact HO
    isplitl [HcS3] <;> iassumption
  iintro ⟨HO, HzS3, Hs3⟩
  -- the four chunks received
  iapply (wait_step σ m ρ K c (.inr 0) _ rfl _ (payload_recv σ m ρ c 0) (dst_credit 0)) $$ [HO HcR0 HatR0]
  · isplitr; · iexact HK
    isplitl [HO]; · iexact HO
    isplitl [HcR0] <;> iassumption
  iintro ⟨HO, HzR0, Hr0⟩
  iapply (wait_step σ m ρ K c (.inr 1) _ rfl _ (payload_recv σ m ρ c 1) (dst_credit 1)) $$ [HO HcR1 HatR1]
  · isplitr; · iexact HK
    isplitl [HO]; · iexact HO
    isplitl [HcR1] <;> iassumption
  iintro ⟨HO, HzR1, Hr1⟩
  iapply (wait_step σ m ρ K c (.inr 2) _ rfl _ (payload_recv σ m ρ c 2) (dst_credit 2)) $$ [HO HcR2 HatR2]
  · isplitr; · iexact HK
    isplitl [HO]; · iexact HO
    isplitl [HcR2] <;> iassumption
  iintro ⟨HO, HzR2, Hr2⟩
  iapply (wait_step σ m ρ K c (.inr 3) _ rfl _ (payload_recv σ m ρ c 3) (dst_credit 3)) $$ [HO HcR3 HatR3]
  · isplitr; · iexact HK
    isplitl [HO]; · iexact HO
    isplitl [HcR3] <;> iassumption
  iintro ⟨HO, HzR3, Hr3⟩
  unfold runs; rw [wp_ret]; imodintro
  iapply Hk
  unfold bodyPost Φ₁ Dat.owesAt Pipeline.owesWithin bufAny owing sendPay recvPay
  rw [show (dats σ m ρ 0 c).owed t₀.succ = 0 from rfl, bigSep_fin4 fun k => semVal (sendCell c k) 0, bigSep_fin4 fun k => semVal (recvCell c k) 0]
  isplitl [Hs0 Hs1 Hs2 Hs3 HzB HzS0 HzS1 HzS2 HzS3 HzR0 HzR1 HzR2 HzR3]
  · isplitl [Hs0 Hs1 Hs2 Hs3]
    · iapply (snd_join c); rw [bigSep_fin4]
      isplitl [Hs0]; · iexact Hs0
      isplitl [Hs1]; · iexact Hs1
      isplitl [Hs2] <;> iassumption
    isplitl [HzB]; · iexact HzB
    isplitl [HzS0 HzS1 HzS2 HzS3]
    · isplitl [HzS0]; · iexact HzS0
      isplitl [HzS1]; · iexact HzS1
      isplitl [HzS2] <;> iassumption
    · isplitl [HzR0]; · iexact HzR0
      isplitl [HzR1]; · iexact HzR1
      isplitl [HzR2] <;> iassumption
  isplitl [HO]
  · icases HO with ⟨%W', HO⟩
    iexists W'
    isplitr; · ipureintro; exact fun _ _ => Or.inl trivial
    iexact HO
  isplitl [Hx]
  · iexists _; isplitr; · (ipureintro; rfl)
    iexact Hx
  isplitl [Ht]
  · iexists _; isplitr; · (ipureintro; rfl)
    iexact Ht
  iexists _; isplitr; · (ipureintro; rfl)
  iapply (Entails.of_eq ((out_split c (xstg m ρ (σ.symm c))).trans (bigSep_fin4 _)).symm)
  isplitl [Hr0]; · iexact Hr0
  isplitl [Hr1]; · iexact Hr1
  isplitl [Hr2] <;> iassumption

set_option maxRecDepth 4000 in
/-- So on every device the body keeps the pipeline's contract. -/
theorem body_obligation (hT : AllTables σ m) (c : Dev nD) :
    BodyObligation (dats (F := F) σ m ρ 0 c) (defs₀ (F := F)) Variants.none () Set.univ := fun t => by
  rw [fin_N t]
  rw [bigSep_W, bigSep_W]
  simp only [owns_whole_eq]
  show iprop(Φ₀ σ m ρ c ∗ bodyStaged σ m ρ c) ⊢ runs c
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost σ m ρ c)
  iintro H
  iapply (sound_body σ m ρ hT c fun _ => bodyPost σ m ρ c)
  isplitl [H]; · iexact H
  iintro H'; iexact H'

end Body

end Cert.Permute

end
-- ==== Proof.Launch.lean ====
/-
# The run of the four devices

The launch deals every device its part of the protocol; every device's run keeps its contract (`Body.lean`); so the whole
program terminates with every device's result the block of `x` of the device that sends to it. The two theorems the claims
rest on are at the end: `run_main` and `run`.
-/
module

public import proofs.«01_k».proof.Proof.Body
public import Idealize.ShloMosaic.Lib.Pipeline.CollectiveSegs

@[expose] public section

noncomputable section

namespace Cert.Permute

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (σ : Equiv.Perm (Dev nD))
variable (m : (ℓ : Loc nD τ sig) → Buf (Elt F) ℓ) (ρ : Dev nD → PrngReg)

/-! ## The nine cells of a device, as one family -/

abbrev Nine : Type := Unit ⊕ (Fin 4 ⊕ Fin 4)

omit [FloatOps F] in
/-- Something for each of the nine: for the barrier, for the four send cells, for the four receive cells. -/
theorem bigSep_nine (Φ : Nine → sProp 𝕄) : bigSep Finset.univ Φ
    = iprop(Φ (.inl ()) ∗ (bigSep Finset.univ fun k : Fin 4 => Φ (.inr (.inl k))) ∗ (bigSep Finset.univ fun k : Fin 4 => Φ (.inr (.inr k)))) := by
  rw [bigSep_univ_sum, bigSep_univ_sum, bigSep_univ_of_subsingleton ()]; rfl

theorem role_csem : ∀ i : Nine, role (csem i) = match i with
    | .inl _ => .bar
    | .inr (.inl k) => .send k
    | .inr (.inr k) => .recv k
  | .inl _ => role_bar
  | .inr (.inl k) => role_send k
  | .inr (.inr k) => role_recv k

theorem csem_injective : Function.Injective (csem : Nine → SemLoc sig) := fun i j h => by
  have h' := congrArg role h
  rw [role_csem, role_csem] at h'
  rcases i with _ | k | k <;> rcases j with _ | l | l <;> first | rfl | (cases h'; rfl) | cases h'

theorem kcell_injective : Function.Injective (kcell : CellIx → GSem nD τ sig) := by
  rintro ⟨c, i⟩ ⟨d, j⟩ h
  have h1 : c = d := congrArg (fun g : GSem nD τ sig => g.1.1) h
  have h2 : i = j := csem_injective (congrArg Prod.snd h)
  rw [h1, h2]

theorem ownSemFacts : Pipeline.OwnSemFacts cfg0.spec osem := by decide

/-! ## What the launch deals -/

def ringCells : Finset (GSem nD τ sig) := Finset.univ.map ⟨kcell, kcell_injective⟩
/-- One token for each cell: that of its one duty. -/
def ringToks : Finset (GSem nD τ sig × ℕ × Unit) :=
  Finset.univ.map ⟨fun ck : CellIx => (kcell ck, 0, ()), fun _ _ h => kcell_injective (congrArg Prod.fst h)⟩

def u₀ : UU :=
  (initOf (Pipeline.cells cfgs cellOf_inj) (Pipeline.launchToks cfgs cellOf_inj), initOf ringCells ringToks)

/-- What device `c` is dealt for its nine cells, -/
def G (c : Dev nD) : sProp 𝕄 :=
  iprop((bigSep Finset.univ fun i : Nine => roundState ER (rd σ m ρ) (kcell (c, i)) 0)
    ∗ (bigSep Finset.univ fun i : Nine => atPos ER (kcell (c, i)) 0 ∅ 0)
    ∗ (bigSep Finset.univ fun i : Nine => reached ER (kcell (c, i)) 0)
    ∗ (bigSep Finset.univ fun i : Nine => dutyTok ER (kcell (c, i)) 0 ()))
/-- and what it has once the cells' invariants stand and the tokens are with those who pay. -/
def G' (c : Dev nD) : sProp 𝕄 := iprop(∃ K, ghost σ m ρ K c)

omit [FloatOps F] in
theorem fund_ring : BI.own (ER (initOf ringCells ringToks)) ⊢ (|==> bigSep Finset.univ (G σ m ρ) : sProp 𝕄) := by
  have hX (Φ : GSem nD τ sig → sProp 𝕄) : bigSep ringCells Φ = bigSep Finset.univ fun c : Dev nD => bigSep Finset.univ fun i : Nine => Φ (kcell (c, i)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun i : Nine => dutyTok ER (kcell (c, i)) 0 () := by
    unfold ringToks; rw [bigSep_map, bigSep_univ_prod]; rfl
  iintro HX
  imod (Rounds.fund ER (rd σ m ρ) ringCells ringToks) $$ HX with ⟨Hst, Hr, Hat, Htok⟩
  imodintro
  ihave Hst := (Entails.of_eq (hX fun g => roundState ER (rd σ m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

omit [FloatOps F] in
/-- The barrier's is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- The kernel's own are the eight of the copies. -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 4 => semVal (sendCell c k) 0) ∗ (bigSep Finset.univ fun k : Fin 4 => semVal (recvCell c k) 0)) := by
  unfold Pipeline.ownSems0; rw [bigSep_univ_sum]; rfl

omit [FloatOps F] in
/-- On one device: the nine counters at zero and what it was dealt make the nine invariants. -/
theorem core_alloc (c : Dev nD) :
    iprop(Pipeline.ownSems0 (Ix := Unit) (Name := ℕ) (U := UU) (Lvl := ℕ) (Val := Elt F) (τ := τ) osem c ∗ unscopedSems0 c ∗ G σ m ρ c)
      ⊢ |={Set.univ}=> iprop((bigSep Finset.univ fun i : Nine => iprop(∃ κ : ℕ, cellInv ER (rd σ m ρ) κ (kcell (c, i))))
          ∗ (bigSep Finset.univ fun i : Nine => atPos ER (kcell (c, i)) 0 ∅ 0)
          ∗ (bigSep Finset.univ fun i : Nine => reached ER (kcell (c, i)) 0)
          ∗ (bigSep Finset.univ fun i : Nine => dutyTok ER (kcell (c, i)) 0 ())) := by
  unfold G
  rw [ownSems0_eq, unscopedSems0_eq]
  iintro ⟨⟨HS, HR⟩, HB, Hst, Hrest⟩
  imod (show iprop((bigSep Finset.univ fun i : Nine => semVal (kcell (c, i)) 0) ∗ bigSep Finset.univ fun i : Nine => roundState ER (rd σ m ρ) (kcell (c, i)) 0)
      ⊢ (|={Set.univ}=> bigSep Finset.univ fun i : Nine => iprop(∃ κ : ℕ, cellInv ER (rd σ m ρ) κ (kcell (c, i))) : sProp 𝕄) from by
        rw [← bigSep_sep']
        exact (bigSep_mono fun i _ => (Rounds.body_intro ER (rd σ m ρ) (kcell (c, i))).trans inv_alloc).trans (bigSep_fupd _ _)) $$ [HS HR HB Hst] with Hinv
  · isplitr [Hst]
    · iapply (Entails.of_eq (bigSep_nine fun i => (semVal (kcell (c, i)) 0 : sProp 𝕄)).symm)
      isplitl [HB]; · iexact HB
      isplitl [HS] <;> iassumption
    iexact Hst
  imodintro
  isplitl [Hinv]; · iexact Hinv
  iexact Hrest

/-- The tokens of the nine duties device `c` pays: the barrier's of the device that sends to it, its own send cells', the
    receive cells' of the device it sends to. -/
def payToks (c : Dev nD) : sProp 𝕄 :=
  iprop(dutyTok ER (barCell (σ.symm c)) 0 () ∗ (bigSep Finset.univ fun k : Fin 4 => dutyTok ER (sendCell c k) 0 ())
    ∗ (bigSep Finset.univ fun k : Fin 4 => dutyTok ER (recvCell (σ c) k) 0 ()))

omit [FloatOps F] in
/-- Over all devices, the tokens of the duties at a device's cells are those of the duties a device pays: `σ` only moves
    them around. -/
theorem toks_around : (bigSep Finset.univ fun c : Dev nD => bigSep Finset.univ fun i : Nine => (dutyTok ER (kcell (c, i)) 0 () : sProp 𝕄))
    = bigSep Finset.univ fun c : Dev nD => payToks σ c := by
  unfold payToks
  rw [bigSep_congr (s := Finset.univ) (fun (c : Dev nD) _ => bigSep_nine fun i => (dutyTok ER (kcell (c, i)) 0 () : sProp 𝕄)),
    bigSep_sep', bigSep_sep', bigSep_sep', bigSep_sep',
    bigSep_univ_equiv σ.symm (fun c : Dev nD => (dutyTok ER (kcell (c, .inl ())) 0 () : sProp 𝕄)),
    bigSep_univ_equiv σ (fun c : Dev nD => bigSep Finset.univ fun k : Fin 4 => (dutyTok ER (kcell (c, .inr (.inr k))) 0 () : sProp 𝕄))]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (BIClass.sep_mono (BI.bigSep_of_persistent S R) (BI.Entails.refl _)).trans (by rw [← bigSep_sep']; exact bigSep_mono h)

omit [FloatOps F] in
theorem ghost_intro (K : CellIx → ℕ) (c : Dev nD) :
    iprop(records σ m ρ K ∗ ((bigSep Finset.univ fun i : Nine => atPos ER (kcell (c, i)) 0 ∅ 0) ∗ payToks σ c)) ⊢ G' σ m ρ c := by
  unfold G' ghost payToks
  rw [bigSep_nine]
  iintro ⟨#HK, Hat, Ht⟩
  iexists K
  isplitr; · iexact HK
  isplitl [Hat]; · iexact Hat
  iexact Ht

omit [FloatOps F] in
/-- The invariants and marks of all devices' cells go to every device, the tokens to those who pay. -/
theorem regroup :
    (bigSep Finset.univ fun c : Dev nD => iprop((bigSep Finset.univ fun i : Nine => iprop(∃ κ : ℕ, cellInv ER (rd σ m ρ) κ (kcell (c, i))))
          ∗ (bigSep Finset.univ fun i : Nine => atPos ER (kcell (c, i)) 0 ∅ 0)
          ∗ (bigSep Finset.univ fun i : Nine => reached ER (kcell (c, i)) 0)
          ∗ (bigSep Finset.univ fun i : Nine => dutyTok ER (kcell (c, i)) 0 ())) : sProp 𝕄)
      ⊢ bigSep Finset.univ (G' σ m ρ) := by
  rw [bigSep_sep', bigSep_sep', bigSep_sep', toks_around σ,
    ← bigSep_univ_prod (fun ck : CellIx => iprop(∃ κ : ℕ, cellInv ER (rd σ m ρ) κ (kcell ck))),
    ← bigSep_univ_prod (fun ck : CellIx => (reached ER (kcell ck) 0 : sProp 𝕄))]
  iintro ⟨HI, Hat, #HR, Htok⟩
  ihave HK := (BI.bigSep_exists_pi Finset.univ (fun (ck : CellIx) (κ : ℕ) => (cellInv ER (rd σ m ρ) κ (kcell ck) : sProp 𝕄))) $$ HI
  icases HK with ⟨%K, #HI⟩
  iapply (bigSep_with_persistent (R := records σ m ρ K) fun c _ => ghost_intro σ m ρ K c)
  isplitr
  · unfold records; isplitl; · iexact HI
    iexact HR
  · rw [bigSep_sep']
    isplitl [Hat] <;> iassumption

omit [FloatOps F] in
theorem glob : (bigSep Finset.univ fun c => iprop(Pipeline.ownSems0 (Ix := Unit) (Name := ℕ) (U := UU) (Lvl := ℕ) (Val := Elt F) (τ := τ) osem c ∗ unscopedSems0 c ∗ G σ m ρ c) : sProp 𝕄)
    ⊢ |={Set.univ}=> bigSep Finset.univ (G' σ m ρ) :=
  ((bigSep_mono fun c _ => core_alloc σ m ρ c).trans (bigSep_fupd _ _)).trans (BI.fupd_mono (regroup σ m ρ))

/-! ## The launch credit -/

theorem bar_eq_iff {a b : Dev nD} : barCell a = barCell b ↔ a = b :=
  ⟨fun h => congrArg (fun g : GSem nD τ sig => g.1.1) h, fun h => h ▸ rfl⟩
theorem recv_eq_iff {a b : Dev nD} {j k : Fin 4} : recvCell a j = recvCell b k ↔ a = b ∧ j = k := by
  constructor
  · intro h
    have := kcell_injective (show kcell (a, .inr (.inr j)) = kcell (b, .inr (.inr k)) from h)
    cases this; exact ⟨rfl, rfl⟩
  · rintro ⟨rfl, rfl⟩; rfl
theorem recv_ne_barCell {a b : Dev nD} {j : Fin 4} : recvCell a j ≠ barCell b := fun h => by
  have := kcell_injective (show kcell (a, .inr (.inr j)) = kcell (b, .inl ()) from h)
  cases this

theorem due_apply (d : Dev nD) (g : GSem nD τ sig) : due σ d 0 g () = ∑ j : Fin 4, if g = recvCell (σ d) j then N else 0 := by
  unfold due
  rw [Finset.filter_true_of_mem fun _ _ => Nat.zero_le _, Finset.sum_apply, Finsupp.finset_sum_apply]
  exact Finset.sum_congr rfl fun j _ => by rw [tallyAt_apply]; simp only [and_true]

/-- What device `d` owes device `c`'s barrier, -/
theorem owed_bar (d c : Dev nD) : O₀ σ d (barCell c) () = if d = σ c then 1 else 0 := by
  unfold O₀
  rw [Pi.add_apply, Finsupp.add_apply, due_apply, Finset.sum_eq_zero fun j _ => if_neg fun h => recv_ne_barCell h.symm, Nat.zero_add, tallyAt_apply]
  refine if_congr ?_ rfl rfl
  rw [bar_eq_iff, and_iff_left rfl, Equiv.eq_symm_apply, eq_comm]
/-- and its receive cell `k`. -/
theorem owed_recv (d c : Dev nD) (k : Fin 4) : O₀ σ d (recvCell c k) () = if d = σ.symm c then N else 0 := by
  unfold O₀
  rw [Pi.add_apply, Finsupp.add_apply, due_apply, tallyAt_apply, if_neg fun h => recv_ne_barCell h.1, Nat.add_zero]
  simp only [recv_eq_iff]
  by_cases h : d = σ.symm c
  · subst h
    rw [if_pos rfl, Equiv.apply_symm_apply]
    simp only [true_and]
    rw [Finset.sum_ite_eq, if_pos (Finset.mem_univ _)]
  · rw [if_neg h]
    exact Finset.sum_eq_zero fun j _ => if_neg fun h' => h ((Equiv.eq_symm_apply σ).mpr h'.1.symm)

theorem launch_bar (c : Dev nD) :
    tallyOn (barCell c) (launchCredit (Pipeline.owing (O₀ σ)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar σ d c, Finset.sum_ite_eq' Finset.univ (σ c) fun _ => 1,
    if_pos (Finset.mem_univ _)]
theorem launch_recv (c : Dev nD) (k : Fin 4) :
    tallyOn (recvCell c k) (launchCredit (Pipeline.owing (O₀ σ)) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv σ d c k, Finset.sum_ite_eq' Finset.univ (σ.symm c) fun _ => N,
    if_pos (Finset.mem_univ _)]

/-- The launch's credit for one semaphore of device `c`. -/
abbrev credAt (c : Dev nD) (sm : SemLoc sig) : sProp 𝕄 :=
  cred (tallyOn ((c : Thread nD τ), sm) (launchCredit (Pipeline.owing (O₀ σ)) 0 ((c : Thread nD τ), sm)))

omit [FloatOps F] in
/-- Among the credits of all the semaphores are those of the nine. -/
theorem creds_nine (c : Dev nD) : (Pipeline.launchCred (O₀ σ) c : sProp 𝕄) ⊢ bigSep Finset.univ fun i : Nine => credAt σ c (csem i) := by
  unfold Pipeline.launchCred
  have h := bigSep_subset (s := Finset.univ) (t := Finset.univ.map ⟨csem, csem_injective⟩) (Finset.subset_univ _) (Φ := credAt (F := F) σ c)
  rw [bigSep_map] at h
  exact h

omit [FloatOps F] in
/-- So device `c` is credited the signal and the four copies it waits for. -/
theorem creds (c : Dev nD) :
    (Pipeline.launchCred (O₀ σ) c : sProp 𝕄) ⊢ iprop(cred (tallyAt (barCell c) () 1) ∗ (bigSep Finset.univ fun k : Fin 4 => cred (tallyAt (recvCell c k) () N))) := by
  have hB : (credAt σ c (csem (.inl ())) : sProp 𝕄) = cred (tallyAt (barCell c) () 1) := congrArg cred (launch_bar σ c)
  have hR : (bigSep Finset.univ fun k : Fin 4 => (credAt σ c (csem (.inr (.inr k))) : sProp 𝕄)) = bigSep Finset.univ fun k : Fin 4 => cred (tallyAt (recvCell c k) () N) :=
    bigSep_congr fun k _ => congrArg cred (launch_recv σ c k)
  iintro H
  ihave H := (creds_nine σ c) $$ H
  ihave H := (Entails.of_eq (bigSep_nine fun i => (credAt σ c (csem i) : sProp 𝕄))) $$ H
  icases H with ⟨HB, -, HR⟩
  isplitl [HB]
  · rw [← hB]; iexact HB
  · rw [← hR]; iexact HR

/-! ## The launch theorem's side conditions -/

theorem share_eq (c : Dev nD) (w : Fin cfg0.W) : (dats σ m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' σ m ρ c)
      ⊢ |={Set.univ}=> iprop(start σ m ρ c ∗ emp) := by
  iintro ⟨-, Hlev, Hcr, -, HG⟩
  ihave Hc := (creds (F := F) σ c) $$ Hcr
  imodintro
  unfold start G'
  isplitl
  · isplitl [HG]; · iexact HG
    isplitl [Hc] <;> iassumption
  · iempintro

theorem phi0_intro (c : Dev nD) :
    iprop(start σ m ρ c ∗ Pipeline.prefHeld Pipeline.Prefetch.none c (fun _ => fullShare.right) (fun k => k.elim0) ∗ Pipeline.scopedRest cfg0.spec c)
      ⊢ (dats σ m ρ 0 c).Φ 0 := by
  rw [show (dats σ m ρ 0 c).Φ 0 = Φ₀ σ m ρ c from rfl, scopedRest0_eq]
  unfold Φ₀ bufAny
  iintro ⟨Hs, -, Hr⟩
  isplitl [Hs] <;> iassumption

theorem phi1_exit (c : Dev nD) :
    (dats σ m ρ 0 c).Φ (Fin.last cfg0.N) ⊢ iprop(unscopedSems0 c ∗ Pipeline.ownSems0 osem c ∗ Pipeline.scopedRest cfg0.spec c) := by
  rw [show (dats σ m ρ 0 c).Φ (Fin.last cfg0.N) = Φ₁ (F := F) c from rfl, scopedRest0_eq, ownSems0_eq, unscopedSems0_eq]
  unfold Φ₁ bufAny
  iintro ⟨Hr, HzB, HzS, HzR⟩
  isplitl [HzB]; · iexact HzB
  isplitl [HzS HzR]
  · isplitl [HzS] <;> iassumption
  iexact Hr

theorem waits (c : Dev nD) : (levAts L lv : sProp 𝕄) ⊢ Pipeline.cellsWaits cfgs (dats σ m ρ) () 0 c :=
  Pipeline.cellsWaits_intro cfgs (dats σ m ρ) () 0 c fun w s t =>
    mayWait_stage σ c _ (by fin_cases w <;> fin_cases s <;> decide) _ (by
      rcases t with ⟨_ | _, ht⟩
      · exact Or.inl rfl
      · exact Or.inr rfl)

/-! ## The run -/

/-- What window `w`'s array holds at the end. -/
def finalA (c : Dev nD) (w : Fin cfg0.W) : Buf (Elt F) ((cfg0.win w).arr.view.loc (c : Thread nD τ)) := (dats σ m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA σ m ρ c w

set_option maxRecDepth 8000 in
/-- For any float values, from any memory with zero counters in which every device's table is the permutation `σ`: every
    weakly fair execution of the program on the four devices terminates, with every device's arrays at `finalA` and every
    counter at zero. -/
theorem run_main (hT : AllTables σ m) : θ_run defs (onTc (τ := τ) (main (F := F))) (s₀ m ρ) (fun r => QC σ m ρ r ∧ r.2.sem = fun _ => 0) :=
  Pipeline.θ_run_region_owing_glob_pf (fun p => (cfgs p).toPCfg) (fun p => (cfgs p).toPCfg_adm) (dats σ m ρ) () cellOf_inj (0 : Fin 1)
    winFacts0.to₀ ownSemFacts (Pipeline.PreFacts.none _) EP defs₀ Variants.none m ρ main
    (hmain := fun _ => rfl)
    (hbody := body_obligation σ m ρ hT) (hne := fun w => by fin_cases w <;> exact Nat.succ_pos _) (harr := arr_whole0) (hstage := stage_whole0) (hshare := share_eq σ m ρ)
    (hdistinct := winFacts0.arr_inj)
    (O₀ := O₀ σ) (howed₀ := fun _ => rfl) (howedN := fun _ => rfl)
    (L := L) (lv := lv) (hL := L_of_ne) (hwaits := waits σ m ρ)
    (G := G σ m ρ) (G' := G' σ m ρ) (u₀ := u₀)
    (hu₀ := by
      unfold u₀
      iintro Hu
      ihave H := (ownU_pair _ _) $$ Hu
      icases H with ⟨HP, HX⟩
      imod (fund_ring σ m ρ) $$ HX with HG
      imodintro
      isplitl [HP] <;> iassumption)
    (hglob := glob σ m ρ)
    (hA := fun _ _ => rfl) (hpf := fun _ k => k.elim0)
    (X := start σ m ρ) (Y := fun c => unscopedSems0 c) (Z := fun _ => iprop(emp))
    (hX := start_intro σ m ρ) (hin := phi0_intro σ m ρ) (hout := phi1_exit σ m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The staged block of `x` is the array's contents. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array ends as the block of the device that sends to it. -/
theorem finalA_out (c : Dev nD) : finalA σ m ρ c (2 : Fin 3) = m ((σ.symm c : Thread nD τ).loc main_arg0) := by
  have hz : (fun a => (win0_2.index (0 : Fin 1)) a * main_v1.ty.shape.size a) = fun _ => 0 :=
    funext fun a => by fin_cases a <;> decide
  have ho : (win0_2.blk (0 : Fin 1)).view.read (Elt F) (finalA σ m ρ c (2 : Fin 3)) = xstg m ρ (σ.symm c) := by
    unfold finalA
    rw [show cfg0.N = ((0 : Fin 1) : Fin cfg0.N).val + 1 from rfl, (dats σ m ρ 0 c).arrAt_succ (2 : Fin 3) (0 : Fin 1)]
    rw [show (cfg0.win (2 : Fin 3)).flush (0 : Fin 1) = true from by decide, if_pos rfl]
    exact View.read_write_univ _ _
  rw [xstg_eq] at ho
  exact (Memref.read_access_unit_zero (Elt F) main_v1 hz (fun a => by fin_cases a <;> decide) _).symm.trans ho

/-- THE RUN: from any memory with zero counters in which every device's table is the permutation `σ`, every weakly fair
    execution terminates, device `c`'s result is the block of `x` of device `σ⁻¹ c`, the arguments are unchanged and every
    counter is at zero. -/
theorem run (hT : AllTables σ m) : θ_run (defs (F := F)) (onTc (τ := τ) (main (F := F))) ⟨m, fun _ => 0, ρ⟩ fun r =>
    (∀ c : Dev nD, r.2.mem ((c : Thread nD τ).loc main_v1) = m ((σ.symm c : Thread nD τ).loc main_arg0)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run (defs (F := F)) _ _).mono (fun _ h => ⟨fun c =>
    ⟨(h.1 c (2 : Fin 3)).trans (finalA_out σ m ρ c),
      (h.1 c (0 : Fin 3)).trans ((dats (F := F) σ m ρ 0 c).arrAt_in (0 : Fin 3) rfl _),
      (h.1 c (1 : Fin 3)).trans ((dats (F := F) σ m ρ 0 c).arrAt_in (1 : Fin 3) rfl _)⟩, h.2⟩) (run_main σ m ρ hT)

end Cert.Permute

end
-- ==== Proof.Value.lean ====
/-
# What the reference computes

The reference sorts the table `pi` carrying along the places `0, 1, 2, 3`, and takes the blocks of `x` in the order of
the places so permuted. Where the table is a permutation `σ` the sort by the words puts place `σ⁻¹ i` at `i`
(`argsort_perm`), so block `i` of the result is block `σ⁻¹ i` of `x` (`value_block`); no index is negative, so the
correction of negative indices leaves them, none is out of range, so the bounds of the gather leave them too, and the two
changes of format are the identity on exact numbers. The first section states what a precondition says of the tables.
-/
module

public import proofs.«01_k».proof.Proof.Launch
public import proofs.«01_k».proof.Proof.Gen.Kernel
public import proofs.«01_k».proof.Proof.Gen.ReferenceIdeal.Run
public import Idealize.ShloMosaic.Lib.SortFacts
public import Idealize.ShloMosaic.Lib.Layout
public import Idealize.ShloMosaic.Lib.Quiescent
public import Idealize.ShloMosaic.PureOps.BitExact
public import Idealize.ShloMosaic.PureOps.Ideal

@[expose] public section

noncomputable section

namespace Cert.Permute

open Idealize.ShloMosaic Idealize.ShloMosaic.TcCoe Idealize.SL.Sem

/-! ## The tables a precondition admits -/

/-- Four different words, each less than four, are the words of a permutation. -/
theorem exists_perm (lit : Fin 4 → BitVec 32) (hlt : ∀ i, (lit i).toNat < 4) (hinj : Function.Injective lit) :
    ∃ σ : Equiv.Perm (Fin 4), ∀ i, lit i = wordOf (σ i) := by
  have hw : ∀ i, lit i = BitVec.ofNat 32 (lit i).toNat := fun i => by simp
  refine ⟨Equiv.ofBijective (fun i => ⟨(lit i).toNat, hlt i⟩) (Finite.injective_iff_bijective.mp fun i j h => ?_), hw⟩
  exact hinj (BitVec.eq_of_toNat_eq (Fin.mk.inj h))

/-- A table that compares equal, word for word, with the words of `σ` is `σ`'s. -/
theorem isTable_of_cmpi (σ : Equiv.Perm (Fin 4)) (lit : Fin 4 → BitVec 32) (hlit : ∀ i, lit i = wordOf (σ i))
    (t : IVec KernelIdeal.S4 32) (h : cmpi .eq t (fun i => lit (KernelIdeal.S4.rowMajor i)) = fun _ => 1#1) : IsTable σ t := by
  intro i
  have hr : KernelIdeal.S4.rowMajor (at4 i) = i := by fin_cases i <;> rfl
  have h1 : IntOp.cmpi .eq (t (at4 i)) (lit (KernelIdeal.S4.rowMajor (at4 i))) = 1#1 := congrFun h (at4 i)
  rw [hr, hlit i] at h1
  by_contra hne
  revert h1
  show ¬BitVec.ofBool (t (at4 i) == wordOf (σ i)) = 1#1
  rw [beq_eq_false_iff_ne.mpr hne]
  decide

variable {F : FTy → Type} [FloatOps F]

/-- So where every device's table compares equal with four words that are a permutation, all tables are one `σ`'s. -/
theorem allTables_of_cmpi (lit : Fin 4 → BitVec 32) (hlt : ∀ i, (lit i).toNat < 4) (hinj : Function.Injective lit)
    (m : (ℓ : Loc KernelIdeal.nD KernelIdeal.τ KernelIdeal.sig) → Buf (Elt F) ℓ)
    (h : ∀ c : Dev KernelIdeal.nD, cmpi .eq (m ((c.tc : Thread KernelIdeal.nD KernelIdeal.τ).loc KernelIdeal.main_arg1) : IVec KernelIdeal.S4 32)
      (fun i => lit (KernelIdeal.S4.rowMajor i)) = fun _ => 1#1) : ∃ σ, AllTables σ m := by
  obtain ⟨σ, hσ⟩ := exists_perm lit hlt hinj
  exact ⟨σ, fun c => isTable_of_cmpi σ lit hσ _ (h c)⟩

/-! ## The sort of a permutation -/

/-- Four different numbers below four in ascending order are `0, 1, 2, 3`. -/
theorem ascending_four (f : Fin 4 → Fin 4) (h : ∀ i j, i < j → f i < f j) (i : Fin 4) : f i = i := by
  have h1 := h 0 1 (by decide)
  have h2 := h 1 2 (by decide)
  have h3 := h 2 3 (by decide)
  rw [Fin.lt_def] at h1 h2 h3
  have h4 := (f 3).isLt
  apply Fin.ext
  fin_cases i
  · show (f 0).val = 0; omega
  · show (f 1).val = 1; omega
  · show (f 2).val = 2; omega
  · show (f 3).val = 3; omega

/-- Sorting the four places by `σ` puts place `σ⁻¹ i` at `i`. -/
theorem sortedFrom_perm (σ : Equiv.Perm (Fin 4)) (i : Fin 4) :
    sortedFrom (fun k k' => decide (σ k < σ k')) i = σ.symm i := by
  rw [Equiv.eq_symm_apply]
  refine ascending_four (fun j => σ (sortedFrom (fun k k' => decide (σ k < σ k')) j)) (fun a b hab => ?_) i
  have hno := sortedFrom_noInversion (fun k k' => decide (σ k < σ k')) (fun k k' => decide (σ k < σ k'))
    (fun a b h => by simp only [decide_eq_true_eq, decide_eq_false_iff_not] at h ⊢; exact not_lt.mpr h.le)
    (fun _ _ h => h)
    (fun a b c h h' => by simp only [decide_eq_false_iff_not, not_lt] at h h' ⊢; exact h'.trans h)
    a b hab
  simp only [decide_eq_false_iff_not, not_lt] at hno
  exact lt_of_le_of_ne hno fun e => hab.ne (sortedFrom_injective _ (σ.injective e))

/-- The comparison of two device words is the comparison of the devices. -/
theorem word_slt : ∀ a b : Fin 4, (IntOp.cmpi .slt (BitVec.ofNat 32 a.val) (BitVec.ofNat 32 b.val) == 1#1) = decide (a < b) := by
  decide

/-- The reference's order of the places: word `i` of it names `σ⁻¹ i`. -/
theorem argsort_perm (σ : Equiv.Perm (Fin 4)) (t : IVec ReferenceIdeal.S4 32) (ht : IsTable σ t) :
    IsTable σ.symm (Host.sort2 ReferenceIdeal.S4 0 ReferenceIdeal.comparator_i32_i32_d0 t (iotaInDim ReferenceIdeal.S4 32 0)).2 := by
  intro i
  have hd : 0 < ReferenceIdeal.S4.rank := Nat.zero_lt_one
  have e : ∀ (j : ReferenceIdeal.S4.Idx) (k : Fin 4), j.along (⟨0, hd⟩ : Fin ReferenceIdeal.S4.rank) k = at4 k := fun j k =>
    (eq_at4 _).trans (congrArg at4 (show j.along (⟨0, hd⟩ : Fin ReferenceIdeal.S4.rank) k 0 = k from Function.update_self (β := fun a => Fin (ReferenceIdeal.S4.size a)) ⟨0, hd⟩ k j))
  have hb : (fun k k' : Fin 4 => ReferenceIdeal.comparator_i32_i32_d0
        (t ((at4 i).along (⟨0, hd⟩ : Fin ReferenceIdeal.S4.rank) k), iotaInDim ReferenceIdeal.S4 32 0 ((at4 i).along (⟨0, hd⟩ : Fin ReferenceIdeal.S4.rank) k))
        (t ((at4 i).along (⟨0, hd⟩ : Fin ReferenceIdeal.S4.rank) k'), iotaInDim ReferenceIdeal.S4 32 0 ((at4 i).along (⟨0, hd⟩ : Fin ReferenceIdeal.S4.rank) k')) == 1#1)
      = fun k k' => decide (σ k < σ k') := by
    funext k k'
    show (IntOp.cmpi .slt (t ((at4 i).along (⟨0, hd⟩ : Fin ReferenceIdeal.S4.rank) k)) (t ((at4 i).along (⟨0, hd⟩ : Fin ReferenceIdeal.S4.rank) k')) == 1#1) = _
    rw [e, e, ht k, ht k']
    exact word_slt (σ k) (σ k')
  have hs := (congrArg (fun B : Fin 4 → Fin 4 → Bool => sortedFrom B i) hb).trans (sortedFrom_perm σ i)
  unfold Host.sort2
  rw [dif_pos hd]
  exact (congrArg (fun k : Fin 4 => iotaInDim ReferenceIdeal.S4 32 0 ((at4 i).along (⟨0, hd⟩ : Fin ReferenceIdeal.S4.rank) k)) hs).trans
    (congrArg (iotaInDim ReferenceIdeal.S4 32 0) (e _ _))

/-! ## The blocks in that order -/

/-- The reference's correction of negative indices leaves a table of device words. -/
theorem wrap_table (σ : Equiv.Perm (Fin 4)) (t z f : IVec ReferenceIdeal.S4 32) (ht : IsTable σ t) (hz : ∀ i, z i = 0#32) :
    IsTable σ (select (cmpi .slt t z) (addi t f) t) := by
  intro i
  show Scalar.select (IntOp.cmpi .slt (t (at4 i)) (z (at4 i))) _ (t (at4 i)) = _
  rw [ht i, hz]
  have h0 : ∀ a : Fin 4, IntOp.cmpi .slt (BitVec.ofNat 32 a.val) 0#32 = 0#1 := by decide
  rw [show IntOp.cmpi .slt (wordOf (σ i)) 0#32 = 0#1 from h0 (σ i)]
  rfl

/-- The gather of the blocks named by a table `σ`: block `i` of the result is block `σ i` of the operand. -/
theorem gather_block {α : Type} (σ : Equiv.Perm (Fin 4)) (x : ReferenceIdeal.S4x512x512.Idx → α) (idx : IVec ReferenceIdeal.S4x1 32)
    (hidx : ∀ j : ReferenceIdeal.S4x1.Idx, idx j = wordOf (σ (j 0))) (c : Fin 4) :
    Layout.block ⟨3, ![1, 512, 512]⟩ ⟨3, ![4, 512, 512]⟩ 0 4 c
        (Host.gather ReferenceIdeal.gather_S4x512x512_S4x1_S4x512x512_12_0_n_n_0_1_1512512 x idx)
      = Layout.block ⟨3, ![1, 512, 512]⟩ ⟨3, ![4, 512, 512]⟩ 0 4 (σ c) x := by
  funext i
  have hT : Layout.Tiles ⟨3, ![1, 512, 512]⟩ ⟨3, ![4, 512, 512]⟩ 0 4 := by decide
  generalize hd : ReferenceIdeal.gather_S4x512x512_S4x1_S4x512x512_12_0_n_n_0_1_1512512 = d
  show x (d.operandIdx (hT.idx c i) idx) = x (hT.idx (σ c) i)
  refine congrArg x (funext fun a => Fin.ext ?_)
  have hi0 : (i 0).val = 0 := Nat.lt_one_iff.mp (i 0).isLt
  have hc : hT.idx c i 0 = c := Fin.ext (by rw [hT.idx_val]; show (if 0 = 0 then c.val * 1 + (i 0).val else _) = c.val; rw [if_pos rfl, hi0]; omega)
  show d.start (hT.idx c i) idx a + d.batchCoord (hT.idx c i) a + d.offCoord (hT.idx c i) a = (hT.idx (σ c) i a).val
  rw [d.batchCoord_eq_zero _ _ (by rw [← hd]; exact List.not_mem_nil)]
  match a with
  | ⟨0, _⟩ =>
    rw [d.offCoord_eq_zero _ _ (fun h => ((d.mem_sKept _).mp h).1 (by rw [← hd]; exact List.mem_singleton.mpr rfl))]
    unfold GatherDims.start
    rw [dif_pos (by rw [← hd]; exact List.mem_singleton.mpr rfl), hidx]
    have hs : ∀ k, d.siIdx (hT.idx c i) k 0 = c := fun k => by subst hd; exact hc
    rw [hs]
    have hsl : d.sliceSizes 0 = 1 := by subst hd; rfl
    have hw : ∀ e : Fin 4, min (BitVec.ofNat 32 e.val).toInt.toNat (4 - 1) = e.val := by decide
    rw [hT.idx_val]
    show min (wordOf (σ c)).toInt.toNat (4 - d.sliceSizes 0) + 0 + 0 = (if 0 = 0 then (σ c).val * 1 + (i 0).val else _)
    rw [if_pos rfl, hsl, hi0, hw (σ c)]
    omega
  | ⟨1, _⟩ =>
    unfold GatherDims.start
    rw [dif_neg (by rw [← hd]; show (1 : Fin 3) ∉ [(0 : Fin 3)]; decide), hT.idx_val, Nat.zero_add]
    subst hd
    rfl
  | ⟨2, _⟩ =>
    unfold GatherDims.start
    rw [dif_neg (by rw [← hd]; show (2 : Fin 3) ∉ [(0 : Fin 3)]; decide), hT.idx_val, Nat.zero_add]
    subst hd
    rfl

/-- What the reference's program leaves in its result, of the contents of its two arguments. -/
abbrev result (x : FVec Ideal ReferenceIdeal.S4x512x512 .bf16) (t : IVec ReferenceIdeal.S4 32) : FVec Ideal ReferenceIdeal.S4x512x512 .bf16 :=
  truncf .bf16 (extf .f32 (Host.gather ReferenceIdeal.gather_S4x512x512_S4x1_S4x512x512_12_0_n_n_0_1_1512512 x
    (broadcastInDim ReferenceIdeal.S4x1 ![0] ReferenceIdeal.Facts₀.bcast_S4_S4x1_0
      (select
        (cmpi .slt (Host.sort2 ReferenceIdeal.S4 0 ReferenceIdeal.comparator_i32_i32_d0 t (iotaInDim ReferenceIdeal.S4 32 0)).2
          (broadcastInDim ReferenceIdeal.S4 ![] ReferenceIdeal.Facts₀.bcast_S_S4 (constantI ReferenceIdeal.S_ 32 0#32)))
        (addi (Host.sort2 ReferenceIdeal.S4 0 ReferenceIdeal.comparator_i32_i32_d0 t (iotaInDim ReferenceIdeal.S4 32 0)).2
          (broadcastInDim ReferenceIdeal.S4 ![] ReferenceIdeal.Facts₀.bcast_S_S4 (constantI ReferenceIdeal.S_ 32 4#32)))
        (Host.sort2 ReferenceIdeal.S4 0 ReferenceIdeal.comparator_i32_i32_d0 t (iotaInDim ReferenceIdeal.S4 32 0)).2)))
    ReferenceIdeal.Facts₀.bitsLt_bf16_f32) ReferenceIdeal.Facts₀.bitsLt_bf16_f32

/-- Where the table is the permutation `σ`, block `c` of the reference's result is block `σ⁻¹ c` of `x`. -/
theorem value_block (σ : Equiv.Perm (Fin 4)) (x : FVec Ideal ReferenceIdeal.S4x512x512 .bf16) (t : IVec ReferenceIdeal.S4 32)
    (ht : IsTable σ t) (c : Fin 4) :
    Layout.block ⟨3, ![1, 512, 512]⟩ ⟨3, ![4, 512, 512]⟩ 0 4 c (result x t)
      = Layout.block ⟨3, ![1, 512, 512]⟩ ⟨3, ![4, 512, 512]⟩ 0 4 (σ.symm c) x := by
  refine gather_block σ.symm x _ (fun j => ?_) c
  have hw := wrap_table σ.symm _ (broadcastInDim ReferenceIdeal.S4 ![] ReferenceIdeal.Facts₀.bcast_S_S4 (constantI ReferenceIdeal.S_ 32 0#32))
    (broadcastInDim ReferenceIdeal.S4 ![] ReferenceIdeal.Facts₀.bcast_S_S4 (constantI ReferenceIdeal.S_ 32 4#32)) (argsort_perm σ t ht) (fun _ => rfl) (j 0)
  refine Eq.trans ?_ hw
  unfold broadcastInDim
  exact congrArg _ (eq_at4 _)

/-! ## The three kinds of claim

Each for four words `lit` that are a permutation: every precondition compares `pi` with four such words. -/

/-- Four different words, each less than four. -/
abbrev ArePerm (lit : Fin 4 → BitVec 32) : Prop := (∀ i, (lit i).toNat < 4) ∧ Function.Injective lit

/-- The tables compare equal, on every device, with the four words. -/
abbrev TablesEq (lit : Fin 4 → BitVec 32) (m : (ℓ : Loc KernelIdeal.nD KernelIdeal.τ KernelIdeal.sig) → Buf (Elt F) ℓ) : Prop :=
  ∀ c : Dev KernelIdeal.nD, cmpi .eq (m ((c.tc : Thread KernelIdeal.nD KernelIdeal.τ).loc KernelIdeal.main_arg1) : IVec KernelIdeal.S4 32)
    (fun i => lit (KernelIdeal.S4.rowMajor i)) = fun _ => 1#1

/-- The kernel runs, its arguments end unchanged and every counter ends at zero. -/
theorem frame_of_tables {lit : Fin 4 → BitVec 32} (hlit : ArePerm lit)
    (m : (ℓ : Loc KernelIdeal.nD KernelIdeal.τ KernelIdeal.sig) → Buf (Elt F) ℓ) (g : Dev KernelIdeal.nD → PrngReg) (h : TablesEq lit m) :
    θ_run (KernelIdeal.defs (F := F)) (onTc (τ := KernelIdeal.τ) (KernelIdeal.main (F := F))) ⟨m, fun _ => 0, g⟩ fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0 := by
  obtain ⟨σ, hT⟩ := allTables_of_cmpi lit hlit.1 hlit.2 m h
  exact (θ_run KernelIdeal.defs _ _).mono (fun _ hr => ⟨fun c => (hr.1 c).2, hr.2⟩) (run σ m g hT)

/-- The program over bits and the one over exact numbers are one text: the kernel's body is the same, -/
theorem body_table_eq : Kernel.defs₀ (F := Bits) = KernelIdeal.defs₀ (F := Bits) := by
  refine congrArg (Defs.onTc (Λ := KernelIdeal.Λ₀)) (funext fun ℓ => funext fun x => ?_)
  match ℓ, x with
  | 0, (t, s) => rfl
  | ⟨_ + 1, h⟩, _ => exact absurd h (Nat.not_lt.2 (Nat.le_add_left _ _))

/-- and so is its launch. -/
theorem launch_table_eq : Kernel.defs (F := Bits) = KernelIdeal.defs (F := Bits) :=
  congrArg (Pipeline.defs KernelIdeal.pcfgs) body_table_eq

/-- So the program over bits runs as well. -/
theorem frame_of_tables_bits {lit : Fin 4 → BitVec 32} (hlit : ArePerm lit)
    (m : (ℓ : Loc Kernel.nD Kernel.τ Kernel.sig) → Buf (Elt Bits) ℓ) (g : Dev Kernel.nD → PrngReg) (h : TablesEq (F := Bits) lit m) :
    θ_run (Kernel.defs (F := Bits)) (onTc (τ := Kernel.τ) (Kernel.main (F := Bits))) ⟨m, fun _ => 0, g⟩ fun r =>
      (∀ c : Dev Kernel.nD,
        r.2.mem ((c.tc : Thread Kernel.nD Kernel.τ).loc Kernel.main_arg0) = m ((c.tc : Thread Kernel.nD Kernel.τ).loc Kernel.main_arg0)
        ∧ r.2.mem ((c.tc : Thread Kernel.nD Kernel.τ).loc Kernel.main_arg1) = m ((c.tc : Thread Kernel.nD Kernel.τ).loc Kernel.main_arg1))
      ∧ r.2.sem = fun _ => 0 := by
  rw [launch_table_eq]
  exact frame_of_tables (F := Bits) hlit m g h

/-- The reference runs, its arguments end unchanged; it has no counters. -/
theorem frame_reference (m : (ℓ : Loc ReferenceIdeal.nD ReferenceIdeal.τ ReferenceIdeal.sig) → Buf (Elt F) ℓ) (g : Dev ReferenceIdeal.nD → PrngReg) :
    θ_run (ReferenceIdeal.defs (F := F)) (onTc (τ := ReferenceIdeal.τ) (ReferenceIdeal.main (F := F))) ⟨m, fun _ => 0, g⟩ fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1))
      ∧ r.2.sem = fun _ => 0 :=
  (θ_run ReferenceIdeal.defs _ _).mono (fun r h => ⟨fun c => (h c).2, sem_eq_zero_of_no_sems rfl _⟩) (ReferenceIdeal.Value.run m g)

/-- Both run, and the kernel's devices end with the blocks of the reference's result. -/
theorem algebraic_of_tables {lit : Fin 4 → BitVec 32} (hlit : ArePerm lit)
    (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ) (g' : Dev ReferenceIdeal.nD → PrngReg)
    (h : TablesEq lit m)
    (hm : ∀ c : Dev KernelIdeal.nD,
      m ((c.tc : Thread KernelIdeal.nD KernelIdeal.τ).loc KernelIdeal.main_arg0) = Layout.block ⟨3, ![1, 512, 512]⟩ ⟨3, ![4, 512, 512]⟩ 0 4 c (m' (((0 : Dev ReferenceIdeal.nD).tc : Thread ReferenceIdeal.nD ReferenceIdeal.τ).loc ReferenceIdeal.main_arg0))
      ∧ m ((c.tc : Thread KernelIdeal.nD KernelIdeal.τ).loc KernelIdeal.main_arg1) = m' (((0 : Dev ReferenceIdeal.nD).tc : Thread ReferenceIdeal.nD ReferenceIdeal.τ).loc ReferenceIdeal.main_arg1)) :
    ∃ v0 : Buf (Elt Ideal) (((0 : Dev ReferenceIdeal.nD).tc : Thread ReferenceIdeal.nD ReferenceIdeal.τ).loc ReferenceIdeal.main_v9),
      θ_run (KernelIdeal.defs (F := Ideal)) (onTc (τ := KernelIdeal.τ) (KernelIdeal.main (F := Ideal))) ⟨m, fun _ => 0, g⟩ (fun r => ∀ c : Dev KernelIdeal.nD,
          r.2.mem ((c.tc : Thread KernelIdeal.nD KernelIdeal.τ).loc KernelIdeal.main_v1) = Layout.block ⟨3, ![1, 512, 512]⟩ ⟨3, ![4, 512, 512]⟩ 0 4 c v0
          ∧ r.2.mem ((c.tc : Thread KernelIdeal.nD KernelIdeal.τ).loc KernelIdeal.main_arg0) = m ((c.tc : Thread KernelIdeal.nD KernelIdeal.τ).loc KernelIdeal.main_arg0)
          ∧ r.2.mem ((c.tc : Thread KernelIdeal.nD KernelIdeal.τ).loc KernelIdeal.main_arg1) = m ((c.tc : Thread KernelIdeal.nD KernelIdeal.τ).loc KernelIdeal.main_arg1))
      ∧ θ_run (ReferenceIdeal.defs (F := Ideal)) (onTc (τ := ReferenceIdeal.τ) (ReferenceIdeal.main (F := Ideal))) ⟨m', fun _ => 0, g'⟩ (fun r =>
          r.2.mem (((0 : Dev ReferenceIdeal.nD).tc : Thread ReferenceIdeal.nD ReferenceIdeal.τ).loc ReferenceIdeal.main_v9) = v0
          ∧ r.2.mem (((0 : Dev ReferenceIdeal.nD).tc : Thread ReferenceIdeal.nD ReferenceIdeal.τ).loc ReferenceIdeal.main_arg0) = m' (((0 : Dev ReferenceIdeal.nD).tc : Thread ReferenceIdeal.nD ReferenceIdeal.τ).loc ReferenceIdeal.main_arg0)
          ∧ r.2.mem (((0 : Dev ReferenceIdeal.nD).tc : Thread ReferenceIdeal.nD ReferenceIdeal.τ).loc ReferenceIdeal.main_arg1) = m' (((0 : Dev ReferenceIdeal.nD).tc : Thread ReferenceIdeal.nD ReferenceIdeal.τ).loc ReferenceIdeal.main_arg1)) := by
  obtain ⟨σ, hT⟩ := allTables_of_cmpi lit hlit.1 hlit.2 m h
  have ht : IsTable σ (m' (((0 : Dev ReferenceIdeal.nD).tc : Thread ReferenceIdeal.nD ReferenceIdeal.τ).loc ReferenceIdeal.main_arg1)) := by
    rw [← (hm 0).2]; exact hT 0
  refine ⟨result (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg1)), ?_, ?_⟩
  · refine (θ_run KernelIdeal.defs _ _).mono (fun r hr c => ⟨?_, (hr.1 c).2⟩) (run σ m g hT)
    exact (hr.1 c).1.trans ((hm (σ.symm c)).1.trans (value_block σ _ _ ht c).symm)
  · exact (θ_run ReferenceIdeal.defs _ _).mono (fun r hr => hr 0) (ReferenceIdeal.Value.run m' g')

end Cert.Permute

end
-- ==== Proof.lean ====
/-
# The claims, assembled

`Proof/Table.lean` reads the table `pi`, `Proof/Chunks.lean` cuts a block into the four chunks the kernel copies one at a
time, `Proof/Protocol.lean` says which semaphores promise what to whom, `Proof/Steps.lean` and `Proof/Body.lean` run the
kernel on one device, `Proof/Launch.lean` runs all four, and `Proof/Value.lean` computes the reference and states each kind
of claim once, for any four words that are a permutation. Here each claim is that one statement at the four words of its
precondition.
-/
module

public import proofs.«01_k».proof.Proof.Gen.ReferenceIdeal.Run
public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pi_0123_Kernel
public import proofs.«01_k».proof.Proof.Gen.Pre_pi_0132_Kernel
public import proofs.«01_k».proof.Proof.Gen.Pre_pi_0213_Kernel
public import proofs.«01_k».proof.Proof.Gen.Pre_pi_0231_Kernel
public import proofs.«01_k».proof.Proof.Gen.Pre_pi_0312_Kernel
public import proofs.«01_k».proof.Proof.Gen.Pre_pi_0321_Kernel
public import proofs.«01_k».proof.Proof.Gen.Pre_pi_1023_Kernel
public import proofs.«01_k».proof.Proof.Gen.Pre_pi_1032_Kernel
public import proofs.«01_k».proof.Proof.Gen.Pre_pi_1203_Kernel
public import proofs.«01_k».proof.Proof.Gen.Pre_pi_1230_Kernel
public import proofs.«01_k».proof.Proof.Gen.Pre_pi_1302_Kernel
public import proofs.«01_k».proof.Proof.Gen.Pre_pi_1320_Kernel
public import proofs.«01_k».proof.Proof.Gen.Pre_pi_2013_Kernel
public import proofs.«01_k».proof.Proof.Gen.Pre_pi_2031_Kernel
public import proofs.«01_k».proof.Proof.Gen.Pre_pi_2103_Kernel
public import proofs.«01_k».proof.Proof.Gen.Pre_pi_2130_Kernel
public import proofs.«01_k».proof.Proof.Gen.Pre_pi_2301_Kernel
public import proofs.«01_k».proof.Proof.Gen.Pre_pi_2310_Kernel
public import proofs.«01_k».proof.Proof.Gen.Pre_pi_3012_Kernel
public import proofs.«01_k».proof.Proof.Gen.Pre_pi_3021_Kernel
public import proofs.«01_k».proof.Proof.Gen.Pre_pi_3102_Kernel
public import proofs.«01_k».proof.Proof.Gen.Pre_pi_3120_Kernel
public import proofs.«01_k».proof.Proof.Gen.Pre_pi_3201_Kernel
public import proofs.«01_k».proof.Proof.Gen.Pre_pi_3210_Kernel
public import proofs.«01_k».proof.Proof.Gen.Pre_pi_0123_ReferenceIdeal
public import proofs.«01_k».proof.Proof.Gen.Pre_pi_0132_ReferenceIdeal
public import proofs.«01_k».proof.Proof.Gen.Pre_pi_0213_ReferenceIdeal
public import proofs.«01_k».proof.Proof.Gen.Pre_pi_0231_ReferenceIdeal
public import proofs.«01_k».proof.Proof.Gen.Pre_pi_0312_ReferenceIdeal
public import proofs.«01_k».proof.Proof.Gen.Pre_pi_0321_ReferenceIdeal
public import proofs.«01_k».proof.Proof.Gen.Pre_pi_1023_ReferenceIdeal
public import proofs.«01_k».proof.Proof.Gen.Pre_pi_1032_ReferenceIdeal
public import proofs.«01_k».proof.Proof.Gen.Pre_pi_1203_ReferenceIdeal
public import proofs.«01_k».proof.Proof.Gen.Pre_pi_1230_ReferenceIdeal
public import proofs.«01_k».proof.Proof.Gen.Pre_pi_1302_ReferenceIdeal
public import proofs.«01_k».proof.Proof.Gen.Pre_pi_1320_ReferenceIdeal
public import proofs.«01_k».proof.Proof.Gen.Pre_pi_2013_ReferenceIdeal
public import proofs.«01_k».proof.Proof.Gen.Pre_pi_2031_ReferenceIdeal
public import proofs.«01_k».proof.Proof.Gen.Pre_pi_2103_ReferenceIdeal
public import proofs.«01_k».proof.Proof.Gen.Pre_pi_2130_ReferenceIdeal
public import proofs.«01_k».proof.Proof.Gen.Pre_pi_2301_ReferenceIdeal
public import proofs.«01_k».proof.Proof.Gen.Pre_pi_2310_ReferenceIdeal
public import proofs.«01_k».proof.Proof.Gen.Pre_pi_3012_ReferenceIdeal
public import proofs.«01_k».proof.Proof.Gen.Pre_pi_3021_ReferenceIdeal
public import proofs.«01_k».proof.Proof.Gen.Pre_pi_3102_ReferenceIdeal
public import proofs.«01_k».proof.Proof.Gen.Pre_pi_3120_ReferenceIdeal
public import proofs.«01_k».proof.Proof.Gen.Pre_pi_3201_ReferenceIdeal
public import proofs.«01_k».proof.Proof.Gen.Pre_pi_3210_ReferenceIdeal
public import Idealize.ShloMosaic.Adequacy
public import Idealize.ShloMosaic.Init

@[expose] public section

noncomputable section

namespace Cert.Proof

open Idealize.ShloMosaic Idealize.SL.Sem Cert.Permute

theorem claim : Cert.Claim := ⟨Cert.Kernel.Gen.facts,
  Cert.KernelIdeal.Gen.facts,
  Cert.ReferenceIdeal.Gen.facts,
  Cert.Pre_pi_0123_Kernel.Gen.facts,
  Cert.Pre_pi_0132_Kernel.Gen.facts,
  Cert.Pre_pi_0213_Kernel.Gen.facts,
  Cert.Pre_pi_0231_Kernel.Gen.facts,
  Cert.Pre_pi_0312_Kernel.Gen.facts,
  Cert.Pre_pi_0321_Kernel.Gen.facts,
  Cert.Pre_pi_1023_Kernel.Gen.facts,
  Cert.Pre_pi_1032_Kernel.Gen.facts,
  Cert.Pre_pi_1203_Kernel.Gen.facts,
  Cert.Pre_pi_1230_Kernel.Gen.facts,
  Cert.Pre_pi_1302_Kernel.Gen.facts,
  Cert.Pre_pi_1320_Kernel.Gen.facts,
  Cert.Pre_pi_2013_Kernel.Gen.facts,
  Cert.Pre_pi_2031_Kernel.Gen.facts,
  Cert.Pre_pi_2103_Kernel.Gen.facts,
  Cert.Pre_pi_2130_Kernel.Gen.facts,
  Cert.Pre_pi_2301_Kernel.Gen.facts,
  Cert.Pre_pi_2310_Kernel.Gen.facts,
  Cert.Pre_pi_3012_Kernel.Gen.facts,
  Cert.Pre_pi_3021_Kernel.Gen.facts,
  Cert.Pre_pi_3102_Kernel.Gen.facts,
  Cert.Pre_pi_3120_Kernel.Gen.facts,
  Cert.Pre_pi_3201_Kernel.Gen.facts,
  Cert.Pre_pi_3210_Kernel.Gen.facts,
  Cert.Pre_pi_0123_ReferenceIdeal.Gen.facts,
  Cert.Pre_pi_0132_ReferenceIdeal.Gen.facts,
  Cert.Pre_pi_0213_ReferenceIdeal.Gen.facts,
  Cert.Pre_pi_0231_ReferenceIdeal.Gen.facts,
  Cert.Pre_pi_0312_ReferenceIdeal.Gen.facts,
  Cert.Pre_pi_0321_ReferenceIdeal.Gen.facts,
  Cert.Pre_pi_1023_ReferenceIdeal.Gen.facts,
  Cert.Pre_pi_1032_ReferenceIdeal.Gen.facts,
  Cert.Pre_pi_1203_ReferenceIdeal.Gen.facts,
  Cert.Pre_pi_1230_ReferenceIdeal.Gen.facts,
  Cert.Pre_pi_1302_ReferenceIdeal.Gen.facts,
  Cert.Pre_pi_1320_ReferenceIdeal.Gen.facts,
  Cert.Pre_pi_2013_ReferenceIdeal.Gen.facts,
  Cert.Pre_pi_2031_ReferenceIdeal.Gen.facts,
  Cert.Pre_pi_2103_ReferenceIdeal.Gen.facts,
  Cert.Pre_pi_2130_ReferenceIdeal.Gen.facts,
  Cert.Pre_pi_2301_ReferenceIdeal.Gen.facts,
  Cert.Pre_pi_2310_ReferenceIdeal.Gen.facts,
  Cert.Pre_pi_3012_ReferenceIdeal.Gen.facts,
  Cert.Pre_pi_3021_ReferenceIdeal.Gen.facts,
  Cert.Pre_pi_3102_ReferenceIdeal.Gen.facts,
  Cert.Pre_pi_3120_ReferenceIdeal.Gen.facts,
  Cert.Pre_pi_3201_ReferenceIdeal.Gen.facts,
  Cert.Pre_pi_3210_ReferenceIdeal.Gen.facts,
  fun m g h => frame_of_tables_bits (lit := Pre_pi_0123_Kernel.lit0) (by decide) m g h,
  fun m g h => frame_of_tables_bits (lit := Pre_pi_0132_Kernel.lit0) (by decide) m g h,
  fun m g h => frame_of_tables_bits (lit := Pre_pi_0213_Kernel.lit0) (by decide) m g h,
  fun m g h => frame_of_tables_bits (lit := Pre_pi_0231_Kernel.lit0) (by decide) m g h,
  fun m g h => frame_of_tables_bits (lit := Pre_pi_0312_Kernel.lit0) (by decide) m g h,
  fun m g h => frame_of_tables_bits (lit := Pre_pi_0321_Kernel.lit0) (by decide) m g h,
  fun m g h => frame_of_tables_bits (lit := Pre_pi_1023_Kernel.lit0) (by decide) m g h,
  fun m g h => frame_of_tables_bits (lit := Pre_pi_1032_Kernel.lit0) (by decide) m g h,
  fun m g h => frame_of_tables_bits (lit := Pre_pi_1203_Kernel.lit0) (by decide) m g h,
  fun m g h => frame_of_tables_bits (lit := Pre_pi_1230_Kernel.lit0) (by decide) m g h,
  fun m g h => frame_of_tables_bits (lit := Pre_pi_1302_Kernel.lit0) (by decide) m g h,
  fun m g h => frame_of_tables_bits (lit := Pre_pi_1320_Kernel.lit0) (by decide) m g h,
  fun m g h => frame_of_tables_bits (lit := Pre_pi_2013_Kernel.lit0) (by decide) m g h,
  fun m g h => frame_of_tables_bits (lit := Pre_pi_2031_Kernel.lit0) (by decide) m g h,
  fun m g h => frame_of_tables_bits (lit := Pre_pi_2103_Kernel.lit0) (by decide) m g h,
  fun m g h => frame_of_tables_bits (lit := Pre_pi_2130_Kernel.lit0) (by decide) m g h,
  fun m g h => frame_of_tables_bits (lit := Pre_pi_2301_Kernel.lit0) (by decide) m g h,
  fun m g h => frame_of_tables_bits (lit := Pre_pi_2310_Kernel.lit0) (by decide) m g h,
  fun m g h => frame_of_tables_bits (lit := Pre_pi_3012_Kernel.lit0) (by decide) m g h,
  fun m g h => frame_of_tables_bits (lit := Pre_pi_3021_Kernel.lit0) (by decide) m g h,
  fun m g h => frame_of_tables_bits (lit := Pre_pi_3102_Kernel.lit0) (by decide) m g h,
  fun m g h => frame_of_tables_bits (lit := Pre_pi_3120_Kernel.lit0) (by decide) m g h,
  fun m g h => frame_of_tables_bits (lit := Pre_pi_3201_Kernel.lit0) (by decide) m g h,
  fun m g h => frame_of_tables_bits (lit := Pre_pi_3210_Kernel.lit0) (by decide) m g h,
  fun m g h => frame_of_tables (lit := Pre_pi_0123_Kernel.lit0) (by decide) m g h,
  fun m g h => frame_of_tables (lit := Pre_pi_0132_Kernel.lit0) (by decide) m g h,
  fun m g h => frame_of_tables (lit := Pre_pi_0213_Kernel.lit0) (by decide) m g h,
  fun m g h => frame_of_tables (lit := Pre_pi_0231_Kernel.lit0) (by decide) m g h,
  fun m g h => frame_of_tables (lit := Pre_pi_0312_Kernel.lit0) (by decide) m g h,
  fun m g h => frame_of_tables (lit := Pre_pi_0321_Kernel.lit0) (by decide) m g h,
  fun m g h => frame_of_tables (lit := Pre_pi_1023_Kernel.lit0) (by decide) m g h,
  fun m g h => frame_of_tables (lit := Pre_pi_1032_Kernel.lit0) (by decide) m g h,
  fun m g h => frame_of_tables (lit := Pre_pi_1203_Kernel.lit0) (by decide) m g h,
  fun m g h => frame_of_tables (lit := Pre_pi_1230_Kernel.lit0) (by decide) m g h,
  fun m g h => frame_of_tables (lit := Pre_pi_1302_Kernel.lit0) (by decide) m g h,
  fun m g h => frame_of_tables (lit := Pre_pi_1320_Kernel.lit0) (by decide) m g h,
  fun m g h => frame_of_tables (lit := Pre_pi_2013_Kernel.lit0) (by decide) m g h,
  fun m g h => frame_of_tables (lit := Pre_pi_2031_Kernel.lit0) (by decide) m g h,
  fun m g h => frame_of_tables (lit := Pre_pi_2103_Kernel.lit0) (by decide) m g h,
  fun m g h => frame_of_tables (lit := Pre_pi_2130_Kernel.lit0) (by decide) m g h,
  fun m g h => frame_of_tables (lit := Pre_pi_2301_Kernel.lit0) (by decide) m g h,
  fun m g h => frame_of_tables (lit := Pre_pi_2310_Kernel.lit0) (by decide) m g h,
  fun m g h => frame_of_tables (lit := Pre_pi_3012_Kernel.lit0) (by decide) m g h,
  fun m g h => frame_of_tables (lit := Pre_pi_3021_Kernel.lit0) (by decide) m g h,
  fun m g h => frame_of_tables (lit := Pre_pi_3102_Kernel.lit0) (by decide) m g h,
  fun m g h => frame_of_tables (lit := Pre_pi_3120_Kernel.lit0) (by decide) m g h,
  fun m g h => frame_of_tables (lit := Pre_pi_3201_Kernel.lit0) (by decide) m g h,
  fun m g h => frame_of_tables (lit := Pre_pi_3210_Kernel.lit0) (by decide) m g h,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  fun m g _ => frame_reference m g,
  trivial,
  fun m g m' g' h hm => algebraic_of_tables (lit := Pre_pi_0123_Kernel.lit0) (by decide) m g m' g' h hm,
  fun m g m' g' h hm => algebraic_of_tables (lit := Pre_pi_0132_Kernel.lit0) (by decide) m g m' g' h hm,
  fun m g m' g' h hm => algebraic_of_tables (lit := Pre_pi_0213_Kernel.lit0) (by decide) m g m' g' h hm,
  fun m g m' g' h hm => algebraic_of_tables (lit := Pre_pi_0231_Kernel.lit0) (by decide) m g m' g' h hm,
  fun m g m' g' h hm => algebraic_of_tables (lit := Pre_pi_0312_Kernel.lit0) (by decide) m g m' g' h hm,
  fun m g m' g' h hm => algebraic_of_tables (lit := Pre_pi_0321_Kernel.lit0) (by decide) m g m' g' h hm,
  fun m g m' g' h hm => algebraic_of_tables (lit := Pre_pi_1023_Kernel.lit0) (by decide) m g m' g' h hm,
  fun m g m' g' h hm => algebraic_of_tables (lit := Pre_pi_1032_Kernel.lit0) (by decide) m g m' g' h hm,
  fun m g m' g' h hm => algebraic_of_tables (lit := Pre_pi_1203_Kernel.lit0) (by decide) m g m' g' h hm,
  fun m g m' g' h hm => algebraic_of_tables (lit := Pre_pi_1230_Kernel.lit0) (by decide) m g m' g' h hm,
  fun m g m' g' h hm => algebraic_of_tables (lit := Pre_pi_1302_Kernel.lit0) (by decide) m g m' g' h hm,
  fun m g m' g' h hm => algebraic_of_tables (lit := Pre_pi_1320_Kernel.lit0) (by decide) m g m' g' h hm,
  fun m g m' g' h hm => algebraic_of_tables (lit := Pre_pi_2013_Kernel.lit0) (by decide) m g m' g' h hm,
  fun m g m' g' h hm => algebraic_of_tables (lit := Pre_pi_2031_Kernel.lit0) (by decide) m g m' g' h hm,
  fun m g m' g' h hm => algebraic_of_tables (lit := Pre_pi_2103_Kernel.lit0) (by decide) m g m' g' h hm,
  fun m g m' g' h hm => algebraic_of_tables (lit := Pre_pi_2130_Kernel.lit0) (by decide) m g m' g' h hm,
  fun m g m' g' h hm => algebraic_of_tables (lit := Pre_pi_2301_Kernel.lit0) (by decide) m g m' g' h hm,
  fun m g m' g' h hm => algebraic_of_tables (lit := Pre_pi_2310_Kernel.lit0) (by decide) m g m' g' h hm,
  fun m g m' g' h hm => algebraic_of_tables (lit := Pre_pi_3012_Kernel.lit0) (by decide) m g m' g' h hm,
  fun m g m' g' h hm => algebraic_of_tables (lit := Pre_pi_3021_Kernel.lit0) (by decide) m g m' g' h hm,
  fun m g m' g' h hm => algebraic_of_tables (lit := Pre_pi_3102_Kernel.lit0) (by decide) m g m' g' h hm,
  fun m g m' g' h hm => algebraic_of_tables (lit := Pre_pi_3120_Kernel.lit0) (by decide) m g m' g' h hm,
  fun m g m' g' h hm => algebraic_of_tables (lit := Pre_pi_3201_Kernel.lit0) (by decide) m g m' g' h hm,
  fun m g m' g' h hm => algebraic_of_tables (lit := Pre_pi_3210_Kernel.lit0) (by decide) m g m' g' h hm⟩

end Cert.Proof

end
